-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S3x4 : Shape := ⟨2, ![3, 4]⟩
abbrev S_ : Shape := ⟨0, ![]⟩
abbrev S1x1 : Shape := ⟨2, ![1, 1]⟩
abbrev S128x512 : Shape := ⟨2, ![128, 512]⟩

abbrev nBuf : Space → Nat
  | .hbm => 2
  | .vmem => 6
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v18 : BitVec 32 := Scalar.extui v11
  let c0_i32_5 : BitVec 32 := 0#32
  let v19 : BitVec 1 := Scalar.cmpi .ne v18 c0_i32_5
  v19

def k0_dev1 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v25 : BitVec 32 := Scalar.muli v2 c8_i32_11
  let v26 : BitVec 32 := Scalar.addi c0_i32_12 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v27 : BitVec 32 := Scalar.muli v5 c4_i32_13
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_7 : BitVec 32 := 0#32
  let v23 : BitVec 1 := Scalar.cmpi .eq v8 c0_i32_7
  let c1_i32_8 : BitVec 32 := 1#32
  let c2_i32_9 : BitVec 32 := 2#32
  let v24 : BitVec 32 := Scalar.select v23 c1_i32_8 c2_i32_9
  let c1_i32_14 : BitVec 32 := 1#32
  let v29 : BitVec 32 := Scalar.muli v24 c1_i32_14
  let v30 : BitVec 32 := Scalar.addi v28 v29
  v30.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v31 : BitVec 32 := Scalar.muli v2 c8_i32_21
  let v32 : BitVec 32 := Scalar.addi c0_i32_22 v31
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v33 : BitVec 32 := Scalar.muli v5 c4_i32_23
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_7 : BitVec 32 := 0#32
  let v23 : BitVec 1 := Scalar.cmpi .eq v8 c0_i32_7
  let c1_i32_8 : BitVec 32 := 1#32
  let c2_i32_9 : BitVec 32 := 2#32
  let v24 : BitVec 32 := Scalar.select v23 c1_i32_8 c2_i32_9
  let c1_i32_24 : BitVec 32 := 1#32
  let v35 : BitVec 32 := Scalar.muli v24 c1_i32_24
  let v36 : BitVec 32 := Scalar.addi v34 v35
  v36.toNat
def k0_dev3 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v43 : BitVec 32 := Scalar.muli v2 c8_i32_33
  let v44 : BitVec 32 := Scalar.addi c0_i32_34 v43
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v45 : BitVec 32 := Scalar.muli v5 c4_i32_35
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_7 : BitVec 32 := 0#32
  let v23 : BitVec 1 := Scalar.cmpi .eq v8 c0_i32_7
  let c1_i32_8 : BitVec 32 := 1#32
  let c2_i32_9 : BitVec 32 := 2#32
  let v24 : BitVec 32 := Scalar.select v23 c1_i32_8 c2_i32_9
  let c1_i32_36 : BitVec 32 := 1#32
  let v47 : BitVec 32 := Scalar.muli v24 c1_i32_36
  let v48 : BitVec 32 := Scalar.addi v46 v47
  v48.toNat
def k0_dev4 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v55 : BitVec 32 := Scalar.muli v2 c8_i32_44
  let v56 : BitVec 32 := Scalar.addi c0_i32_45 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_46 : BitVec 32 := 4#32
  let v57 : BitVec 32 := Scalar.muli v5 c4_i32_46
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_7 : BitVec 32 := 0#32
  let v23 : BitVec 1 := Scalar.cmpi .eq v8 c0_i32_7
  let c1_i32_8 : BitVec 32 := 1#32
  let c2_i32_9 : BitVec 32 := 2#32
  let v24 : BitVec 32 := Scalar.select v23 c1_i32_8 c2_i32_9
  let c1_i32_47 : BitVec 32 := 1#32
  let v59 : BitVec 32 := Scalar.muli v24 c1_i32_47
  let v60 : BitVec 32 := Scalar.addi v58 v59
  v60.toNat
def k0_dev5 (d0 : Dev nD) : Nat :=
  let c0_i32_56 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_55 : BitVec 32 := 8#32
  let v67 : BitVec 32 := Scalar.muli v2 c8_i32_55
  let v68 : BitVec 32 := Scalar.addi c0_i32_56 v67
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_57 : BitVec 32 := 4#32
  let v69 : BitVec 32 := Scalar.muli v5 c4_i32_57
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_7 : BitVec 32 := 0#32
  let v23 : BitVec 1 := Scalar.cmpi .eq v8 c0_i32_7
  let c1_i32_8 : BitVec 32 := 1#32
  let c2_i32_9 : BitVec 32 := 2#32
  let v24 : BitVec 32 := Scalar.select v23 c1_i32_8 c2_i32_9
  let c1_i32_58 : BitVec 32 := 1#32
  let v71 : BitVec 32 := Scalar.muli v24 c1_i32_58
  let v72 : BitVec 32 := Scalar.addi v70 v71
  v72.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v20 : BitVec 1 := Scalar.xori v11 v_true
  let v21 : BitVec 32 := Scalar.extui v20
  let c0_i32_6 : BitVec 32 := 0#32
  let v22 : BitVec 1 := Scalar.cmpi .ne v21 c0_i32_6
  v22

def k0_dev6 (d0 : Dev nD) : Nat :=
  let c0_i32_13 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_12 : BitVec 32 := 8#32
  let v26 : BitVec 32 := Scalar.muli v2 c8_i32_12
  let v27 : BitVec 32 := Scalar.addi c0_i32_13 v26
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v28 : BitVec 32 := Scalar.muli v5 c4_i32_14
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v23 : BitVec 1 := Scalar.cmpi .eq v8 c1_i32_7
  let c0_i32_8 : BitVec 32 := 0#32
  let c3_i32_9 : BitVec 32 := 3#32
  let v24 : BitVec 32 := Scalar.select v23 c0_i32_8 c3_i32_9
  let c1_i32_15 : BitVec 32 := 1#32
  let v30 : BitVec 32 := Scalar.muli v24 c1_i32_15
  let v31 : BitVec 32 := Scalar.addi v29 v30
  v31.toNat
def k0_dev7 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v32 : BitVec 32 := Scalar.muli v2 c8_i32_17
  let v33 : BitVec 32 := Scalar.addi c0_i32_18 v32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v34 : BitVec 32 := Scalar.muli v5 c4_i32_19
  let v35 : BitVec 32 := Scalar.addi v33 v34
  let c3_i32_10 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v25 : BitVec 32 := Scalar.subi c3_i32_10 v8
  let c1_i32_20 : BitVec 32 := 1#32
  let v36 : BitVec 32 := Scalar.muli v25 c1_i32_20
  let v37 : BitVec 32 := Scalar.addi v35 v36
  v37.toNat
def k0_dev8 (d0 : Dev nD) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v54 : BitVec 32 := Scalar.muli v2 c8_i32_45
  let v55 : BitVec 32 := Scalar.addi c0_i32_46 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v56 : BitVec 32 := Scalar.muli v5 c4_i32_47
  let v57 : BitVec 32 := Scalar.addi v55 v56
  let c3_i32_10 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v25 : BitVec 32 := Scalar.subi c3_i32_10 v8
  let c1_i32_48 : BitVec 32 := 1#32
  let v58 : BitVec 32 := Scalar.muli v25 c1_i32_48
  let v59 : BitVec 32 := Scalar.addi v57 v58
  v59.toNat
def k0_dev9 (d0 : Dev nD) : Nat :=
  let c0_i32_74 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_73 : BitVec 32 := 8#32
  let v82 : BitVec 32 := Scalar.muli v2 c8_i32_73
  let v83 : BitVec 32 := Scalar.addi c0_i32_74 v82
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_75 : BitVec 32 := 4#32
  let v84 : BitVec 32 := Scalar.muli v5 c4_i32_75
  let v85 : BitVec 32 := Scalar.addi v83 v84
  let c3_i32_10 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v25 : BitVec 32 := Scalar.subi c3_i32_10 v8
  let c1_i32_76 : BitVec 32 := 1#32
  let v86 : BitVec 32 := Scalar.muli v25 c1_i32_76
  let v87 : BitVec 32 := Scalar.addi v85 v86
  v87.toNat
def k0_dev10 (d0 : Dev nD) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_103 : BitVec 32 := 8#32
  let v108 : BitVec 32 := Scalar.muli v2 c8_i32_103
  let v109 : BitVec 32 := Scalar.addi c0_i32_104 v108
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v110 : BitVec 32 := Scalar.muli v5 c4_i32_105
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v23 : BitVec 1 := Scalar.cmpi .eq v8 c1_i32_7
  let c0_i32_8 : BitVec 32 := 0#32
  let c3_i32_9 : BitVec 32 := 3#32
  let v24 : BitVec 32 := Scalar.select v23 c0_i32_8 c3_i32_9
  let c1_i32_106 : BitVec 32 := 1#32
  let v112 : BitVec 32 := Scalar.muli v24 c1_i32_106
  let v113 : BitVec 32 := Scalar.addi v111 v112
  v113.toNat
def k0_dev11 (d0 : Dev nD) : Nat :=
  let c0_i32_132 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_131 : BitVec 32 := 8#32
  let v136 : BitVec 32 := Scalar.muli v2 c8_i32_131
  let v137 : BitVec 32 := Scalar.addi c0_i32_132 v136
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_133 : BitVec 32 := 4#32
  let v138 : BitVec 32 := Scalar.muli v5 c4_i32_133
  let v139 : BitVec 32 := Scalar.addi v137 v138
  let c3_i32_10 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v25 : BitVec 32 := Scalar.subi c3_i32_10 v8
  let c1_i32_134 : BitVec 32 := 1#32
  let v140 : BitVec 32 := Scalar.muli v25 c1_i32_134
  let v141 : BitVec 32 := Scalar.addi v139 v140
  v141.toNat
def k0_dev12 (d0 : Dev nD) : Nat :=
  let c0_i32_162 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_161 : BitVec 32 := 8#32
  let v162 : BitVec 32 := Scalar.muli v2 c8_i32_161
  let v163 : BitVec 32 := Scalar.addi c0_i32_162 v162
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_163 : BitVec 32 := 4#32
  let v164 : BitVec 32 := Scalar.muli v5 c4_i32_163
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v23 : BitVec 1 := Scalar.cmpi .eq v8 c1_i32_7
  let c0_i32_8 : BitVec 32 := 0#32
  let c3_i32_9 : BitVec 32 := 3#32
  let v24 : BitVec 32 := Scalar.select v23 c0_i32_8 c3_i32_9
  let c1_i32_164 : BitVec 32 := 1#32
  let v166 : BitVec 32 := Scalar.muli v24 c1_i32_164
  let v167 : BitVec 32 := Scalar.addi v165 v166
  v167.toNat
def k0_dev13 (d0 : Dev nD) : Nat :=
  let c0_i32_190 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_189 : BitVec 32 := 8#32
  let v190 : BitVec 32 := Scalar.muli v2 c8_i32_189
  let v191 : BitVec 32 := Scalar.addi c0_i32_190 v190
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_191 : BitVec 32 := 4#32
  let v192 : BitVec 32 := Scalar.muli v5 c4_i32_191
  let v193 : BitVec 32 := Scalar.addi v191 v192
  let c3_i32_10 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v25 : BitVec 32 := Scalar.subi c3_i32_10 v8
  let c1_i32_192 : BitVec 32 := 1#32
  let v194 : BitVec 32 := Scalar.muli v25 c1_i32_192
  let v195 : BitVec 32 := Scalar.addi v193 v194
  v195.toNat
def k0_dev14 (d0 : Dev nD) : Nat :=
  let c0_i32_220 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_219 : BitVec 32 := 8#32
  let v216 : BitVec 32 := Scalar.muli v2 c8_i32_219
  let v217 : BitVec 32 := Scalar.addi c0_i32_220 v216
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_221 : BitVec 32 := 4#32
  let v218 : BitVec 32 := Scalar.muli v5 c4_i32_221
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v23 : BitVec 1 := Scalar.cmpi .eq v8 c1_i32_7
  let c0_i32_8 : BitVec 32 := 0#32
  let c3_i32_9 : BitVec 32 := 3#32
  let v24 : BitVec 32 := Scalar.select v23 c0_i32_8 c3_i32_9
  let c1_i32_222 : BitVec 32 := 1#32
  let v220 : BitVec 32 := Scalar.muli v24 c1_i32_222
  let v221 : BitVec 32 := Scalar.addi v219 v220
  v221.toNat
def k0_dev15 (d0 : Dev nD) : Nat :=
  let c0_i32_250 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_249 : BitVec 32 := 8#32
  let v242 : BitVec 32 := Scalar.muli v2 c8_i32_249
  let v243 : BitVec 32 := Scalar.addi c0_i32_250 v242
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_251 : BitVec 32 := 4#32
  let v244 : BitVec 32 := Scalar.muli v5 c4_i32_251
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v23 : BitVec 1 := Scalar.cmpi .eq v8 c1_i32_7
  let c0_i32_8 : BitVec 32 := 0#32
  let c3_i32_9 : BitVec 32 := 3#32
  let v24 : BitVec 32 := Scalar.select v23 c0_i32_8 c3_i32_9
  let c1_i32_252 : BitVec 32 := 1#32
  let v246 : BitVec 32 := Scalar.muli v24 c1_i32_252
  let v247 : BitVec 32 := Scalar.addi v245 v246
  v247.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S4x512x512 : Shape := ⟨3, ![4, 512, 512]⟩
abbrev S_ : Shape := ⟨0, ![]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x512x512, .bf16⟩
  | .hbm, ⟨2, _⟩ => ⟨S4x512x512, .f32⟩
  | .hbm, ⟨3, _⟩ => ⟨S_, .f32⟩
  | .hbm, ⟨4, _⟩ => ⟨S512x512, .f32⟩
  | .hbm, ⟨5, _⟩ => ⟨S512x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Protocol.lean ====
/-
# The protocol of the two-stage all-reduce

Along axis `z` of the mesh the four devices of a row are 0, 1, 2, 3.  Devices 0 and 3 are the ENDS, 1 and 2 the
MIDDLES.  An end sends its array to the middle beside it (phase 0); a middle adds that to its own array and exchanges
the sum with the other middle (phase 1); a middle adds the two sums and sends the total to the end beside it (phase 2).
Every array moves as four chunks of 128 rows.

This module states the protocol: the partners, the chunks, the cells, what each chunk holds in each phase, the schedule
of duties of every cell, what each device owes at launch, and the levels that order the waits.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Memref
public import Idealize.ShloMosaic.Lib.StableHlo.CollectiveRules
public import Idealize.ShloMosaic.Lib.Tactic

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The partners -/

set_option backward.proofsInPublic true in
/-- The device beside `c`: the middle of an end, the end of a middle. -/
def pe (c : Dev nD) : Dev nD := ⟨2 * (c.val / 2) + (1 - c.val % 2), by have := c.isLt; simp only [nD] at *; omega⟩
set_option backward.proofsInPublic true in
/-- The device opposite `c` on its row: the other middle of a middle. -/
def ot (c : Dev nD) : Dev nD := ⟨4 * (c.val / 4) + (3 - c.val % 4), by have := c.isLt; simp only [nD] at *; omega⟩

/-- The device beside the device beside `c` is `c`. -/
theorem pe_pe (c : Dev nD) : pe (pe c) = c := by revert c; decide
/-- The device opposite the device opposite `c` is `c`. -/
theorem ot_ot (c : Dev nD) : ot (ot c) = c := by revert c; decide

/-- Whether `c` is an end of its row. -/
def isEnd (c : Dev nD) : Bool := c.val % 4 == 0 || c.val % 4 == 3

/-- Beside an end is a middle, beside a middle an end; -/
theorem isEnd_pe (c : Dev nD) : isEnd (pe c) = !isEnd c := by revert c; decide
/-- opposite an end is an end, opposite a middle a middle. -/
theorem isEnd_ot (c : Dev nD) : isEnd (ot c) = isEnd c := by revert c; decide

/-- The partner of `c` in phase `p`. -/
def nb (p : Fin 3) (c : Dev nD) : Dev nD := if p = 1 then ot c else pe c
/-- Whether `c` sends in phase `p`. -/
def sender (p : Fin 3) (c : Dev nD) : Bool := if p = 0 then isEnd c else !isEnd c

/-- Partners are partners of each other. -/
theorem nb_nb (p : Fin 3) (c : Dev nD) : nb p (nb p c) = c := by revert p c; decide

/-! ## The chunks -/

/-- Each chunk lies within the array. -/
theorem inbk (i : Fin 4) : ∀ a, (![128 * i.val, 0] : Fin 2 → ℕ) a + S128x512.size a ≤ S512x512.size a := by
  revert i; decide

/-- Rows `128 i` to `128 i + 127`. -/
abbrev rk (i : Fin 4) : Rect S512x512 := Rect.unit (s := S512x512) ![128 * i.val, 0] S128x512.size (inbk i)

/-- Chunk `i` of an array. -/
abbrev ch (b : Memref sig .tc .vmem S512x512 .bf16) (i : Fin 4) : Memref sig .tc .vmem S128x512 .bf16 := b.slice (rk i) (fun _ => rfl)

/-- Different chunks are disjoint, -/
theorem rk_disjoint (i j : Fin 4) (h : i ≠ j) : Disjoint (rk i).set (rk j).set :=
  Ring.lead_disjoint (s := S512x512) (0 : Fin 2) 128 (fun i => ![128 * i.val, 0]) S128x512.size inbk (fun _ => rfl) rfl i j h

/-- and together they are the array. -/
theorem rk_cover : (Finset.univ : Finset (Fin 4)).biUnion (fun i => (rk i).set) = Finset.univ :=
  Ring.lead_cover (s := S512x512) (0 : Fin 2) 128 (fun i : Fin 4 => ![128 * i.val, 0]) S128x512.size inbk (fun _ => rfl)
    (fun i a h => by fin_cases a; · exact absurd rfl h
                     · rfl) rfl
    (fun a h => by fin_cases a; · exact absurd rfl h
                   · rfl) rfl

/-- The staged input, the staged output and the four scratch arrays: the device's own array, the array received from the
    end, the sum with the end's array, the sum received from the other middle. -/
abbrev xM : Memref sig .tc .vmem S512x512 .bf16 := Memref.whole cc0_stg0_0
abbrev outM : Memref sig .tc .vmem S512x512 .bf16 := Memref.whole cc0_stg1_0
abbrev inM : Memref sig .tc .vmem S512x512 .bf16 := Memref.whole cc0_scratch0
abbrev pendM : Memref sig .tc .vmem S512x512 .bf16 := Memref.whole cc0_scratch1
abbrev psumM : Memref sig .tc .vmem S512x512 .bf16 := Memref.whole cc0_scratch2
abbrev pmidM : Memref sig .tc .vmem S512x512 .bf16 := Memref.whole cc0_scratch3

/-- What phase `p` sends from, and where to. -/
abbrev srcM : Fin 3 → Memref sig .tc .vmem S512x512 .bf16 := fun | 0 => inM | 1 => psumM | 2 => outM
abbrev dstM : Fin 3 → Memref sig .tc .vmem S512x512 .bf16 := fun | 0 => pendM | 1 => pmidM | 2 => outM
/-- The share of a source chunk that its transfer borrows: a middle still reads the sum it sends. -/
abbrev shr : Fin 3 → PosShare TreeShare := fun | 1 => fullShare.left | _ => fullShare

/-- What a chunk's transfer credits. -/
def N : ℕ := (ch inM 0).view.dmaCredit
/-- A transfer's credit is positive, -/
theorem N_pos : 0 < N := View.dmaCredit_pos _ (by decide)
/-- and it is the same for every chunk sent -/
theorem credit_src (p : Fin 3) (i : Fin 4) : (ch (srcM p) i).view.dmaCredit = N := by fin_cases p <;> rfl
/-- and every chunk received. -/
theorem credit_dst (p : Fin 3) (i : Fin 4) : (ch (dstM p) i).view.dmaCredit = N := by fin_cases p <;> rfl

/-! ## The cells -/

/-- A phase and a chunk: one transfer. -/
abbrev Cp : Type := Fin 3 × Fin 4
/-- The kernel's own semaphores: sending and receiving, per transfer. -/
abbrev Own : Type := Cp ⊕ Cp
/-- All the cells of a device: the barrier and its own. -/
abbrev CK : Type := Unit ⊕ Own

abbrev bar : CK := .inl ()
abbrev snd (p : Fin 3) (i : Fin 4) : CK := .inr (.inl (p, i))
abbrev rcv (p : Fin 3) (i : Fin 4) : CK := .inr (.inr (p, i))

set_option backward.proofsInPublic true in
abbrev sndQ (p : Fin 3) (i : Fin 4) : DmaSem sig := (⟨2 + (4 * p.val + i.val), by have := p.isLt; have := i.isLt; show _ < 26; omega⟩ : Fin 26)
set_option backward.proofsInPublic true in
abbrev rcvQ (p : Fin 3) (i : Fin 4) : DmaSem sig := (⟨14 + (4 * p.val + i.val), by have := p.isLt; have := i.isLt; show _ < 26; omega⟩ : Fin 26)

abbrev barS : Sem sig := (SemArray.scalar (sig.barrier 0 rfl) : Sems sig S_).sem

abbrev osem : Own → SemLoc sig := fun | .inl (p, i) => .dma (sndQ p i) | .inr (p, i) => .dma (rcvQ p i)
abbrev csem : CK → SemLoc sig := fun | .inl _ => .reg barS | .inr k => osem k

/-- Which cell of a device a semaphore is: none if it is one of the pipeline's own. -/
def kind : SemLoc sig → Option CK
  | .reg _ => some bar
  | .dma q =>
    if q.val < 2 then none
    else if q.val < 14 then some (snd (Fin.ofNat 3 ((q.val - 2) / 4)) (Fin.ofNat 4 ((q.val - 2) % 4)))
    else some (rcv (Fin.ofNat 3 ((q.val - 14) / 4)) (Fin.ofNat 4 ((q.val - 14) % 4)))

/-- The kind of a cell's semaphore is the cell's; -/
theorem kind_csem (k : CK) : kind (csem k) = some k := by
  rcases k with ⟨⟩ | ⟨⟨p, i⟩ | ⟨p, i⟩⟩
  · rfl
  · revert p i; decide
  · revert p i; decide

/-- different cells of a device have different semaphores, -/
theorem csem_injective : Function.Injective csem := fun a b h => by
  have := congrArg kind h; rw [kind_csem, kind_csem] at this; exact Option.some.inj this

/-- Cell `k` of device `c`. -/
abbrev cell (x : Dev nD × CK) : GSem nD τ sig := ((x.1 : Thread nD τ), csem x.2)

/-- and different cells of the mesh are different. -/
theorem cell_injective : Function.Injective cell := by
  rintro ⟨c, k⟩ ⟨c', k'⟩ h
  have h1 : c = c' := congrArg (fun g : GSem nD τ sig => g.1.1) h
  have h2 : k = k' := csem_injective (congrArg Prod.snd h)
  rw [h1, h2]

/-! ## The contents -/

/-- The input block as staged. -/
def xstg (c : Dev nD) : (cc0_stg0_0 : Ref sig .tc).ty.Contents (Elt F) :=
  (win0_0.blk (0 : Fin 1)).view.read (Elt F) ((s₀ m ρ).mem ((c : Thread nD τ).loc main_arg0))

/-- The device's own array, as the kernel copies it. -/
def inA (c : Dev nD) : Vec F S512x512 .bf16 := k0_pay1 (xstg m ρ c)
/-- Its chunk `i`; -/
def inC (c : Dev nD) (i : Fin 4) : Vec F S128x512 .bf16 := fun j => inA m ρ c ((rk i).emb j)
/-- the sum of that and the end's; -/
def psum (c : Dev nD) (i : Fin 4) : Vec F S128x512 .bf16 := k0_pay2 (inC m ρ c i) (inC m ρ (pe c) i)
/-- the sum of the two sums. -/
def tot (c : Dev nD) (i : Fin 4) : Vec F S128x512 .bf16 := k0_pay4 (psum m ρ c i) (psum m ρ (ot c) i)

/-- What chunk `i` of phase `p`, sent by `c`, holds. -/
def val (p : Fin 3) (c : Dev nD) (i : Fin 4) : Vec F S128x512 .bf16 := match p with
  | 0 => inC m ρ c i | 1 => psum m ρ c i | 2 => tot m ρ c i

/-- Chunk `i` of the result on `c`: the total that `c`, or the middle beside it, made. -/
def outC (c : Dev nD) (i : Fin 4) : Vec F S128x512 .bf16 := if isEnd c then tot m ρ (pe c) i else tot m ρ c i
/-- The result on `c`. -/
def outAt (c : Dev nD) : (cc0_stg1_0 : Ref sig .tc).ty.Contents (Elt F) := Rect.glue rk rk_cover (outC m ρ c)

/-- Device `c` holds chunk `i` of `b`, at share `q`, holding `X`; -/
abbrev own (c : Dev nD) (b : Memref sig .tc .vmem S512x512 .bf16) (i : Fin 4) (q : PosShare TreeShare) (X : Vec F S128x512 .bf16) : sProp 𝕄 :=
  owns (c : Thread nD τ) (ch b i) q X
/-- holding anything. -/
abbrev any (c : Dev nD) (b : Memref sig .tc .vmem S512x512 .bf16) (i : Fin 4) : sProp 𝕄 := iprop(∃ X, own (F := F) c b i fullShare X)

/-- The destination of phase `p` on `c`'s partner, whatever it holds. -/
def free (p : Fin 3) (c : Dev nD) : sProp 𝕄 := bigSep Finset.univ fun i => any (F := F) (nb p c) (dstM p) i

/-! ## The schedule -/

/-- What duty `d` of cell `k` of device `c` hands over.  A barrier signal hands over the memory its sender gives up for
    the transfers to it; a sending cell gives the source back; a receiving cell gives the chunk received. -/
def pay (c : Dev nD) (k : CK) (d : Fin 2) : sProp 𝕄 := match k with
  | .inl _ => if d = 0 then (if isEnd c then free (F := F) 0 c else free 2 c) else free 1 c
  | .inr (.inl (p, i)) => own c (srcM p) i (shr p) (val m ρ p c i)
  | .inr (.inr (p, i)) => own c (dstM p) i fullShare (val m ρ p (nb p c) i)

/-- The duties of cell `k` of device `c`. -/
def dty (c : Dev nD) (k : CK) : Finset (Fin 2) := match k with
  | .inl _ => if isEnd c then {0} else Finset.univ
  | .inr (.inl (p, _)) => if sender p c then {0} else ∅
  | .inr (.inr (p, _)) => if sender p (nb p c) then {0} else ∅

def amt : CK → ℕ | .inl _ => 1 | .inr _ => N
/-- Every payment is positive. -/
theorem amt_pos (k : CK) : 0 < amt k := by rcases k with _ | _; exacts [Nat.one_pos, N_pos]

/-- The schedule: one round. -/
def sched : Rounds.Schedule (GSem nD τ sig) (Fin 2) 𝕄 where
  duties g r := if r = 0 ∧ g.1.2 = .tc then (kind g.2).elim ∅ (dty g.1.1) else ∅
  unitless _ := False
  amount g _ _ := (kind g.2).elim 1 amt
  payload g _ d := (kind g.2).elim iprop(emp) fun k => pay m ρ g.1.1 k d
  amount_pos g _ _ _ := by
    cases kind g.2 with
    | none => exact Nat.one_pos
    | some k => exact amt_pos k

instance free_storable (p : Fin 3) (c : Dev nD) : BI.Storable (upEmb : UEmb _ 𝕄) (free (F := F) p c) := by
  unfold free; infer_instance

instance pay_storable (c : Dev nD) (k : CK) (d : Fin 2) : BI.Storable (upEmb : UEmb _ 𝕄) (pay m ρ c k d) := by
  unfold pay
  rcases k with _ | ⟨⟨p, i⟩ | ⟨p, i⟩⟩
  · dsimp only; (repeat' split) <;> infer_instance
  · dsimp only; infer_instance
  · dsimp only; infer_instance

instance sched_payload_storable (g : GSem nD τ sig) (r : ℕ) (d : Fin 2) :
    BI.Storable (upEmb : UEmb _ 𝕄) ((sched (F := F) m ρ).payload g r d) := by
  show BI.Storable upEmb ((kind g.2).elim iprop(emp) fun k => pay m ρ g.1.1 k d)
  cases kind g.2 with
  | none => exact inferInstanceAs (BI.Storable upEmb (iprop(emp) : sProp 𝕄))
  | some k => exact pay_storable m ρ g.1.1 k d

/-- The duties of a cell in the one round, -/
theorem duties_cell (x : Dev nD × CK) : (sched (F := F) m ρ).duties (cell x) 0 = dty x.1 x.2 := by
  show (if (0 : ℕ) = 0 ∧ (cell x).1.2 = .tc then (kind (csem x.2)).elim ∅ (dty x.1) else ∅) = _
  rw [if_pos ⟨rfl, rfl⟩, kind_csem]; rfl
/-- none later, -/
theorem duties_later (g : GSem nD τ sig) (r : ℕ) (h : 1 ≤ r) : (sched (F := F) m ρ).duties g r = ∅ :=
  if_neg fun h' => by omega
/-- what each pays, -/
theorem amount_cell (x : Dev nD × CK) (d : Fin 2) : (sched (F := F) m ρ).amount (cell x) 0 d = amt x.2 := by
  show (kind (csem x.2)).elim 1 amt = _; rw [kind_csem]; rfl
/-- what each hands over, -/
theorem payload_cell (x : Dev nD × CK) (d : Fin 2) : (sched (F := F) m ρ).payload (cell x) 0 d = pay m ρ x.1 x.2 d := by
  show (kind (csem x.2)).elim iprop(emp) (fun k => pay m ρ x.1 k d) = _; rw [kind_csem]; rfl
/-- and what the cell gets in all. -/
theorem expect_cell (x : Dev nD × CK) : (sched (F := F) m ρ).expect (cell x) 0 = (dty x.1 x.2).card * amt x.2 := by
  unfold Schedule.expect Schedule.amountOf
  rw [duties_cell, Finset.sum_congr rfl fun d _ => amount_cell m ρ x d, Finset.sum_const, smul_eq_mul]

/-! ## What each device owes at launch, and the levels -/

/-- What an end pays, in the order it pays it; -/
def endL (c : Dev nD) : List (Dev nD × CK) :=
  [(pe c, bar), (pe c, rcv 0 0), (pe c, rcv 0 1), (pe c, rcv 0 2), (pe c, rcv 0 3)]
/-- what a middle pays. -/
def midL (c : Dev nD) : List (Dev nD × CK) :=
  [(pe c, bar), (ot c, bar), (ot c, rcv 1 0), (ot c, rcv 1 1), (pe c, rcv 2 0), (ot c, rcv 1 2), (pe c, rcv 2 1),
    (ot c, rcv 1 3), (pe c, rcv 2 2), (pe c, rcv 2 3)]
def payL (c : Dev nD) : List (Dev nD × CK) := if isEnd c then endL c else midL c

/-- The tallies of a list of payments, the first one last. -/
def owedL : List (Dev nD × CK) → CellTallies nD τ sig Unit
  | [] => 0
  | x :: l => owedL l + tallyAt (cell x) () (amt x.2)

/-- How often `x` is in a list of payments. -/
def times (x : Dev nD × CK) : List (Dev nD × CK) → ℕ
  | [] => 0
  | y :: l => times x l + if y = x then 1 else 0

/-- How many payments device `c`'s cell `k` receives. -/
def cnt (c : Dev nD) (k : CK) : ℕ := ∑ d : Dev nD, times (c, k) (payL d)

/-- What a list of payments owes a cell is the number of times it is in the list, at its amount. -/
theorem owedL_apply (l : List (Dev nD × CK)) (x : Dev nD × CK) : owedL l (cell x) () = times x l * amt x.2 := by
  induction l with
  | nil => exact (Nat.zero_mul _).symm
  | cons y l ih =>
    show (owedL l + tallyAt (cell y) () (amt y.2)) (cell x) () = (times x l + if y = x then 1 else 0) * amt x.2
    rw [Pi.add_apply, Finsupp.add_apply, ih, tallyAt_apply]
    by_cases h : y = x
    · subst h; rw [if_pos ⟨rfl, rfl⟩, if_pos rfl, Nat.add_mul, Nat.one_mul]
    · rw [if_neg (fun h' => h (cell_injective h'.1).symm), if_neg h, Nat.add_zero, Nat.add_zero]

/-- Only cells in the list are owed anything. -/
theorem owedL_pos {l : List (Dev nD × CK)} {g : GSem nD τ sig} {u : Unit} (h : 0 < owedL l g u) : ∃ x ∈ l, g = cell x := by
  induction l with
  | nil => exact absurd h (Nat.lt_irrefl 0)
  | cons y l ih =>
    by_cases hg : g = cell y
    · exact ⟨y, List.mem_cons_self, hg⟩
    · have h' : 0 < owedL l g u + tallyAt (cell y) () (amt y.2) g u := h
      rw [tallyAt_apply, if_neg (fun h'' => hg h''.1), Nat.add_zero] at h'
      obtain ⟨x, hx, e⟩ := ih h'
      exact ⟨x, List.mem_cons_of_mem _ hx, e⟩

def L (g : GSem nD τ sig) : Finset Unit := if g.1.2 = .tc then {()} else ∅
/-- Only the TensorCores' semaphores have an index, -/
theorem L_of_ne (g : GSem nD τ sig) (h : g.1.2 ≠ .tc) : L g = ∅ := if_neg h
/-- and each of those has one. -/
theorem L_tc (c : Dev nD) (sm : SemLoc sig) : L ((c : Thread nD τ), sm) = {()} := if_pos rfl

/-- The level of a cell: staging and sending 0, the barrier 1, then the receiving cells in the order their contents can be
    made. -/
def lvK : CK → ℕ
  | .inl _ => 1
  | .inr (.inl _) => 0
  | .inr (.inr (p, i)) => if p = 0 then 2 else if p = 1 then 3 + i.val else 10
def lv (g : GSem nD τ sig) (_ : Unit) : ℕ := (kind g.2).elim 0 lvK

/-- The level of a cell is that of its kind. -/
theorem lv_cell (x : Dev nD × CK) : lv (cell x) () = lvK x.2 := by
  show (kind (csem x.2)).elim 0 lvK = _; rw [kind_csem]; rfl

/-- A device may wait on a semaphore below every payment it still owes. -/
theorem mayWait (c : Dev nD) (sm : SemLoc sig) (l : List (Dev nD × CK))
    (h : ∀ k ∈ l.map Prod.snd, (kind sm).elim 0 lvK < lvK k) :
    (levAts L lv : sProp 𝕄) ⊢ MayWait (c : Thread nD τ) sm () (owedL l) :=
  MayOwe.of_cut (L := L) (lev := lv) ((kind sm).elim 0 lvK)
    (fun p hp => by rw [Finset.mem_singleton.mp hp, L_tc]; exact Finset.mem_singleton_self _)
    (fun g u hg => by obtain ⟨x, -, rfl⟩ := owedL_pos hg; exact Finset.mem_singleton_self _)
    (fun p hp => by rw [Finset.mem_singleton.mp hp]; exact Nat.le_refl _)
    (fun g u hg => by
      obtain ⟨x, hx, rfl⟩ := owedL_pos hg
      rw [show u = () from rfl, lv_cell]
      exact h _ (List.mem_map_of_mem hx))

end Cert.Run

end
-- ==== Proof.Steps.lean ====
/-
# One step of the body at a time

The rules for one access, one transfer and one wait of the kernel's body, each stated once for every phase and chunk.
-/
module

public import proofs.«01_k».proof.Proof.Protocol

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

abbrev 𝒱₀ : Variants := Variants.none

/-- Running `e` on device `c`. -/
abbrev run (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-! ## What a device holds -/

/-- Every cell's invariant, and that it has reached its round. -/
def records : sProp 𝕄 :=
  iprop((bigSep Finset.univ fun x : Dev nD × CK => cellInv ER (sched m ρ) (K x) (cell x))
    ∗ bigSep Finset.univ fun x : Dev nD × CK => reached ER (cell x) 0)

instance records_persistent : BI.Persistent (records m ρ K) := by unfold records; infer_instance

/-- That and the levels: what every step reads. -/
def env : sProp 𝕄 := iprop(records m ρ K ∗ levAts L lv)
instance env_persistent : BI.Persistent (env m ρ K) := by unfold env; infer_instance

/-- The record has every cell's invariant, -/
theorem env_inv (x : Dev nD × CK) : env m ρ K ⊢ (cellInv ER (sched m ρ) (K x) (cell x) : sProp 𝕄) := by
  unfold env records; iintro ⟨⟨H, -⟩, -⟩; iapply (show (bigSep Finset.univ fun x : Dev nD × CK => (cellInv ER (sched m ρ) (K x) (cell x) : sProp 𝕄)) ⊢ cellInv ER (sched m ρ) (K x) (cell x) from bigSep_elim (Finset.mem_univ x)); iexact H
/-- that every cell has reached its first round, -/
theorem env_reached (x : Dev nD × CK) : env m ρ K ⊢ (reached ER (cell x) 0 : sProp 𝕄) := by
  unfold env records; iintro ⟨⟨-, H⟩, -⟩; iapply (show (bigSep Finset.univ fun x : Dev nD × CK => (reached ER (cell x) 0 : sProp 𝕄)) ⊢ reached ER (cell x) 0 from bigSep_elim (Finset.mem_univ x)); iexact H
/-- and the levels allow a wait below everything that is still owed. -/
theorem env_mayWait (c : Dev nD) (sm : SemLoc sig) (l : List (Dev nD × CK))
    (h : ∀ k ∈ l.map Prod.snd, (kind sm).elim 0 lvK < lvK k) :
    env m ρ K ⊢ (MayWait (c : Thread nD τ) sm () (owedL l) : sProp 𝕄) := by
  unfold env; iintro ⟨-, H⟩; iapply (mayWait c sm l h); iexact H

/-- Device `c` still owes the payments `l`. -/
def ow (c : Dev nD) (l : List (Dev nD × CK)) : sProp 𝕄 := iprop(∃ W, owes (c : Thread nD τ) (owedL l) W)
/-- Device `c` is at the start of its cell `k`'s round; -/
abbrev atS (c : Dev nD) (k : CK) : sProp 𝕄 := atPos ER (cell (c, k)) 0 ∅ 0
/-- has what it takes to wait there for `n`; -/
def wk (c : Dev nD) (k : CK) (n : ℕ) : sProp 𝕄 := iprop(cred (tallyAt (cell (c, k)) () n) ∗ atS (F := F) c k)
/-- has its counter back, at zero. -/
abbrev zr (c : Dev nD) (k : CK) : sProp 𝕄 := semVal (cell (c, k)) 0
/-- What it takes to send chunk `i` in phase `p`, beside the source: the destination, and the two duties. -/
def sk (c : Dev nD) (p : Fin 3) (i : Fin 4) : sProp 𝕄 :=
  iprop(any (F := F) (nb p c) (dstM p) i ∗ atS (F := F) c (snd p i)
    ∗ dutyTok ER (cell (c, snd p i)) 0 (0 : Fin 2) ∗ dutyTok ER (cell (nb p c, rcv p i)) 0 (0 : Fin 2))

/-! ## The steps -/

variable {α : Type}

/-- Reading a chunk held. -/
theorem run_load {Q : α → sProp 𝕄} (c : Dev nD) (b : Memref sig .tc .vmem S512x512 .bf16) (i : Fin 4) {q : PosShare TreeShare} {X : Vec F S128x512 .bf16}
    {hl : b.view.LoadsAt (rk i).toLoadRect} {k : Vec F S128x512 .bf16 → Prog (TpuEff nD τ sig (Elt F) Λ₀ .tc) α} :
    own c b i q X ⊢ iprop((own c b i q X -∗ run c (k X) Q) -∗ run c (.op (.load b (rk i).toLoadRect hl) k) Q) := by
  unfold own owns
  iintro ⟨%f, %hf, H⟩
  subst hf
  iintro Hk
  iapply (wp_load_rect 𝒱₀ (c : Thread nD τ) none Set.univ (m := b) (r := rk i) (Finset.Subset.refl _)) $$ H
  iintro H
  iapply Hk
  iexists f; isplitr; · ipureintro; rfl
  iexact H

/-- Writing a chunk held. -/
theorem run_store {Q : α → sProp 𝕄} (c : Dev nD) (b : Memref sig .tc .vmem S512x512 .bf16) (i : Fin 4) {w : Vec F S128x512 .bf16}
    {hx : (b.access (rk i)).Stores Finset.univ} {hm}
    {k : PUnit → Prog (TpuEff nD τ sig (Elt F) Λ₀ .tc) α} :
    any c b i ⊢ iprop((own c b i fullShare w -∗ run c (k ⟨⟩) Q) -∗ run c (.op (.store b (rk i) w Finset.univ hx hm) k) Q) := by
  unfold any own owns
  iintro ⟨%X, %f, -, H⟩
  iintro Hk
  iapply (wp_store 𝒱₀ (c : Thread nD τ) none Set.univ (m := b) (r := rk i) (Mk := Finset.univ) (S := (b.access (rk i)).set) (Finset.Subset.refl _)) $$ H
  iintro H
  iapply Hk
  iexists _; isplitr
  rotate_left
  · iexact H
  · ipureintro; exact View.read_write_univ _ _

/-- Sending chunk `i` in phase `p`. -/
theorem run_send {Q : α → sProp 𝕄} (p : Fin 3) (i : Fin 4) (c n : Dev nD) (hn : n = nb p c) (hs : sender p c = true) (l : List (Dev nD × CK))
    {sS sR : SemLoc sig} (hS : sS = .dma (sndQ p i)) (hR : sR = .dma (rcvQ p i))
    {hsc} {hsrc} {hdst} {hsem} {k : PUnit → Prog (TpuEff nD τ sig (Elt F) Λ₀ .tc) α} :
    iprop(env m ρ K ∗ own c (srcM p) i (shr p) (val m ρ p c i) ∗ sk (F := F) c p i ∗ ow (F := F) c ((nb p c, rcv p i) :: l))
      ⊢ iprop(((wk (F := F) c (snd p i) N ∗ ow (F := F) c l) -∗ run c (k ⟨⟩) Q)
          -∗ run c (.op (.enqueueDma (ch (srcM p) i) (.remote (Dev.tc n : Thread nD τ) (ch (dstM p) i) sS hsc) sR hsrc hdst hsem) k) Q) := by
  subst hn hS hR
  unfold sk ow wk any own owns
  iintro ⟨#He, ⟨%fs, %hfs, Hs⟩, ⟨⟨%X, %fd, -, Hd⟩, Hat, Ht, Ht'⟩, ⟨%W, HO⟩⟩
  iintro Hk
  ihave #Hi := (env_inv m ρ K (c, snd p i)) $$ He
  ihave #Hi' := (env_inv m ρ K (nb p c, rcv p i)) $$ He
  ihave #Hr := (env_reached m ρ K (c, snd p i)) $$ He
  ihave #Hr' := (env_reached m ρ K (nb p c, rcv p i)) $$ He
  iapply (Rounds.wp_send_pointsTo 𝒱₀ ER (sched m ρ) (c : Thread nD τ) none (κ₁ := K (c, snd p i)) (κ₂ := K (nb p c, rcv p i))
    (r₁ := 0) (r₂ := 0) (d₁ := 0) (d₂ := 0) (fs := fs) (fd := fd)
    (by rw [duties_cell m ρ (c, snd p i)]; show 0 ∈ if sender p c then ({0} : Finset (Fin 2)) else ∅; rw [if_pos hs]; exact Finset.mem_singleton_self _)
    (by rw [duties_cell m ρ (nb p c, rcv p i)]; show 0 ∈ if sender p (nb p (nb p c)) then ({0} : Finset (Fin 2)) else ∅
        rw [nb_nb, if_pos hs]; exact Finset.mem_singleton_self _)
    () () N (by exact credit_dst p i) (amount_cell m ρ (c, snd p i) 0) (amount_cell m ρ (nb p c, rcv p i) 0) (owedL l) rfl (W := W)
    (by rw [payload_cell m ρ (c, snd p i)]; show _ ⊢ own c (srcM p) i (shr p) (val m ρ p c i)
        unfold own owns; iintro H; iexists fs; isplitr; · ipureintro; exact hfs
        iexact H)
    (by rw [payload_cell m ρ (nb p c, rcv p i)]; show _ ⊢ own (nb p c) (dstM p) i fullShare (val m ρ p (nb p (nb p c)) i)
        rw [nb_nb]
        unfold own owns; iintro H; iexists _; isplitr
        rotate_left
        · iexact H
        · ipureintro; exact (View.read_write_univ _ _).trans hfs)) $$ [Hs Hd HO Ht Ht']
  · isplitr; · iexact Hi
    isplitr; · iexact Hi'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc Hat]
  · isplitl [Hc] <;> iassumption
  iexists W; iexact HO

/-- A cell whose round is over, or that has none, gives its counter back. -/
theorem close (c : Dev nD) (k : CK) (R : ℕ) (hR : 1 ≤ R ∨ dty c k = ∅) :
    iprop(env m ρ K ∗ atPos ER (cell (c, k)) R ∅ 0) ⊢ (|={Set.univ}=> zr (F := F) c k : sProp 𝕄) := by
  iintro ⟨#He, Hat⟩
  ihave #Hi := (env_inv m ρ K (c, k)) $$ He
  iapply (Rounds.cell_close ER (sched m ρ) (Set.mem_univ (K (c, k))) (fun h => h) (R := R) (fun r hr => by
    rcases Nat.eq_zero_or_pos r with h0 | h0
    · subst h0
      rcases hR with h | h
      · exact absurd hr (by omega)
      · rw [duties_cell m ρ (c, k)]; exact h
    · exact duties_later m ρ _ r h0))
  isplitr; · iexact Hi
  iexact Hat

/-- The wait for all of a cell's round: its payloads come, and the cell is closed. -/
theorem run_wait {Q : α → sProp 𝕄} (c : Dev nD) (x : CK) {w : TpuEff nD τ sig (Elt F) Λ₀ .tc PUnit} {n n' : ℕ} {sm : SemLoc sig}
    (hw : ∀ J : PUnit → sProp 𝕄, wpE (defs₀ (F := F)) 𝒱₀ (c : Thread nD τ) none Set.univ w J = waitSpec (c : Thread nD τ) Set.univ sm n' J)
    (hsm : sm = csem x) (hn' : n' = n)
    (hn : n = (dty c x).card * amt x) (l : List (Dev nD × CK)) (hl : ∀ k ∈ l.map Prod.snd, lvK x < lvK k)
    {k : PUnit → Prog (TpuEff nD τ sig (Elt F) Λ₀ .tc) α} :
    iprop(env m ρ K ∗ wk (F := F) c x n ∗ ow (F := F) c l)
      ⊢ iprop(((zr (F := F) c x ∗ bigSep (dty c x) (pay m ρ c x) ∗ ow (F := F) c l) -∗ run c (k ⟨⟩) Q) -∗ run c (.op w k) Q) := by
  subst hsm hn'
  unfold ow wk
  iintro ⟨#He, ⟨Hc, Hat⟩, ⟨%W, HO⟩⟩
  iintro Hk
  ihave #Hi := (env_inv m ρ K (c, x)) $$ He
  iapply (Rounds.wp_wait_rest_token 𝒱₀ ER (sched m ρ) (c : Thread nD τ) none (κ := K (c, x))
      hw (Set.mem_univ _) () (O := owedL l) (W := W) (R := 0) (m := 0) (T := ∅)
      (by rw [Nat.zero_add]; exact hn.trans (expect_cell m ρ (c, x)).symm)) $$ [Hc HO Hat]
  · isplitr; · iexact Hi
    isplitl [Hc]; · iexact Hc
    isplitl [HO]; · iexact HO
    isplitr
    · iapply (env_mayWait m ρ K c (csem x) l (by rw [kind_csem]; exact hl)); iexact He
    iexact Hat
  iintro ⟨HO, Hat, -, Hpay⟩
  imod (close m ρ K c x (0 + 1) (Or.inl (Nat.le_refl _))) $$ [Hat] with Hz
  · isplitr; · iexact He
    iexact Hat
  ihave Hpay := (Entails.of_eq (show bigSep ((sched (F := F) m ρ).duties (cell (c, x)) 0 \ ∅) (fun d => (sched (F := F) m ρ).payload (cell (c, x)) 0 d)
      = bigSep (dty c x) (pay m ρ c x) from by
        rw [Finset.sdiff_empty, duties_cell m ρ (c, x)]; exact bigSep_congr fun d _ => payload_cell m ρ (c, x) d)) $$ Hpay
  iapply Hk
  isplitl [Hz]; · iexact Hz
  isplitl [Hpay]; · iexact Hpay
  iexists _; iexact HO

/-- The wait for a chunk of phase `p` to arrive. -/
theorem run_recv {Q : α → sProp 𝕄} (p : Fin 3) (i : Fin 4) (c : Dev nD) (hs : sender p (nb p c) = true) {q : DmaSem sig} (hq : q = rcvQ p i)
    (l : List (Dev nD × CK)) (hl : ∀ k ∈ l.map Prod.snd, lvK (rcv p i) < lvK k)
    {a : Memref sig .tc .vmem S128x512 .bf16} {hsrc} {hdst} {k : PUnit → Prog (TpuEff nD τ sig (Elt F) Λ₀ .tc) α} :
    iprop(env m ρ K ∗ wk (F := F) c (rcv p i) N ∗ ow (F := F) c l)
      ⊢ iprop(((zr (F := F) c (rcv p i) ∗ own c (dstM p) i fullShare (val m ρ p (nb p c) i) ∗ ow (F := F) c l) -∗ run c (k ⟨⟩) Q)
          -∗ run c (.op (.waitDma2 q a (ch (dstM p) i) hsrc hdst) k) Q) := by
  subst hq
  have hd : dty c (rcv p i) = {0} := if_pos hs
  have h := run_wait m ρ K (Q := Q) (k := k) c (rcv p i) (wpE_waitDma2_eq (src := a) (hsrc := hsrc) (hdst := hdst) 𝒱₀ (c : Thread nD τ) none Set.univ) rfl (credit_dst p i)
    (by rw [hd, Finset.card_singleton, Nat.one_mul]; rfl) l hl
  rw [hd, bigSep_singleton] at h
  exact h

/-- The wait for a chunk of phase `p` to have left. -/
theorem run_sent {Q : α → sProp 𝕄} (p : Fin 3) (i : Fin 4) (c : Dev nD) (hs : sender p c = true) {q : DmaSem sig} (hq : q = sndQ p i)
    (l : List (Dev nD × CK)) (hl : ∀ k ∈ l.map Prod.snd, lvK (snd p i) < lvK k)
    {a : Memref sig .tc .vmem S128x512 .bf16} {hsrc} {hdst} {k : PUnit → Prog (TpuEff nD τ sig (Elt F) Λ₀ .tc) α} :
    iprop(env m ρ K ∗ wk (F := F) c (snd p i) N ∗ ow (F := F) c l)
      ⊢ iprop(((zr (F := F) c (snd p i) ∗ own c (srcM p) i (shr p) (val m ρ p c i) ∗ ow (F := F) c l) -∗ run c (k ⟨⟩) Q)
          -∗ run c (.op (.waitDma2 q a (ch (srcM p) i) hsrc hdst) k) Q) := by
  subst hq
  have hd : dty c (snd p i) = {0} := if_pos hs
  have h := run_wait m ρ K (Q := Q) (k := k) c (snd p i) (wpE_waitDma2_eq (src := a) (hsrc := hsrc) (hdst := hdst) 𝒱₀ (c : Thread nD τ) none Set.univ) rfl (credit_src p i)
    (by rw [hd, Finset.card_singleton, Nat.one_mul]; rfl) l hl
  rw [hd, bigSep_singleton] at h
  exact h

/-- A signal to the barrier of device `d`, paying its duty `e`. -/
theorem run_signal {Q : α → sProp 𝕄} (c d n : Dev nD) (hn : n = d) (e : Fin 2) (he : e ∈ dty d bar) (l : List (Dev nD × CK)) {s : Sem sig} (hs : s = barS)
    {k : PUnit → Prog (TpuEff nD τ sig (Elt F) Λ₀ .tc) α} :
    iprop(env m ρ K ∗ dutyTok ER (cell (d, bar)) 0 e ∗ pay m ρ d bar e ∗ ow (F := F) c ((d, bar) :: l))
      ⊢ iprop((ow (F := F) c l -∗ run c (k ⟨⟩) Q) -∗ run c (.op (.semSignal ((n, .tc) : Thread nD τ) s (BitVec.toInt 1#32)) k) Q) := by
  subst hn hs
  unfold ow
  iintro ⟨#He, Ht, Hp, ⟨%W, HO⟩⟩
  iintro Hk
  ihave #Hi := (env_inv m ρ K (n, bar)) $$ He
  ihave #Hr := (env_reached m ρ K (n, bar)) $$ He
  iapply (Rounds.wp_signal 𝒱₀ ER (sched m ρ) (c : Thread nD τ) none (dst := (n : Thread nD τ)) (κ := K (n, bar))
      (d := e) (by rw [duties_cell m ρ (n, bar)]; exact he) ((amount_cell m ρ (n, bar) e).trans (show (1 : ℕ) = _ from by decide)) () (owedL l) rfl)
    $$ [HO Ht Hp]
  · isplitr; · iexact Hi
    isplitl [HO]; · iexact HO
    isplitl [Ht]; · iexact Ht
    isplitl [Hp]; · rw [payload_cell m ρ (n, bar)]; iexact Hp
    iexact Hr
  iintro HO
  iapply Hk
  iexists W; iexact HO

end Cert.Run

end
-- ==== Proof.Stages.lean ====
/-
# The stages of a chunk

A chunk passes the same stages whatever its number: on an end it is sent, its total received; on a middle the end's chunk
is received, added and the sum sent on (`run_red`), then the other middle's sum received, added and the total sent back
(`run_tot`).  What a device holds of a chunk before and after the kernel is the same for both.
-/
module

public import proofs.«01_k».proof.Proof.Steps
public import Idealize.ShloMosaic.Lib.MemrefSat

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## Before and after -/

/-- The five arrays' chunks `i`, the device's own array copied. -/
def mem (c : Dev nD) (i : Fin 4) : sProp 𝕄 :=
  iprop(own c inM i fullShare (inC m ρ c i) ∗ any (F := F) c outM i ∗ any (F := F) c pendM i ∗ any (F := F) c psumM i ∗ any (F := F) c pmidM i)
/-- What the launch deals for chunk `i` in phase `p`: the two duties its transfer pays, the positions at its two cells,
    and the credit of its receiving cell. -/
def gh (c : Dev nD) (p : Fin 3) (i : Fin 4) : sProp 𝕄 :=
  iprop((dutyTok ER (cell (c, snd p i)) 0 (0 : Fin 2) ∗ dutyTok ER (cell (nb p c, rcv p i)) 0 (0 : Fin 2))
    ∗ (atS (F := F) c (snd p i) ∗ atS (F := F) c (rcv p i)) ∗ cred (tallyAt (cell (c, rcv p i)) () (cnt c (rcv p i) * amt (rcv p i))))
/-- After the kernel: the result's chunk, the others whatever they hold, and the cells closed. -/
def fin (c : Dev nD) (i : Fin 4) : sProp 𝕄 :=
  iprop((any (F := F) c inM i ∗ own c outM i fullShare (outC m ρ c i) ∗ any (F := F) c pendM i ∗ any (F := F) c psumM i ∗ any (F := F) c pmidM i)
    ∗ bigSep Finset.univ fun p : Fin 3 => iprop(zr (F := F) c (snd p i) ∗ zr (F := F) c (rcv p i)))

/-- A receiving cell gets one payment if its partner sends in that phase, otherwise none. -/
theorem cnt_rcv (c : Dev nD) (p : Fin 3) (i : Fin 4) : cnt c (rcv p i) = if sender p (nb p c) then 1 else 0 := by
  revert c p i; decide
/-- The barrier of an end gets one payment, that of a middle two. -/
theorem cnt_bar (c : Dev nD) : cnt c bar = if isEnd c then 1 else 2 := by revert c; decide

/-- A cell that nobody pays gives its counter back at zero. -/
theorem close_unused (c : Dev nD) (k : CK) (h : dty c k = ∅) : iprop(env m ρ K ∗ atS (F := F) c k) ⊢ (|={Set.univ}=> zr (F := F) c k : sProp 𝕄) :=
  close m ρ K c k 0 (Or.inr h)

/-- A receiving cell whose partner sends is ready to be waited on. -/
theorem wk_intro (c : Dev nD) (p : Fin 3) (i : Fin 4) (h : sender p (nb p c) = true) :
    iprop(cred (tallyAt (cell (c, rcv p i)) () (cnt c (rcv p i) * amt (rcv p i))) ∗ atS (F := F) c (rcv p i)) ⊢ wk (F := F) c (rcv p i) N := by
  unfold wk
  rw [cnt_rcv, if_pos h, Nat.one_mul]; rfl

/-- What a transfer pays and comes back to, but for its room. -/
def sk' (c : Dev nD) (p : Fin 3) (i : Fin 4) : sProp 𝕄 :=
  iprop(atS (F := F) c (snd p i) ∗ dutyTok ER (cell (c, snd p i)) 0 (0 : Fin 2) ∗ dutyTok ER (cell (nb p c, rcv p i)) 0 (0 : Fin 2))

/-- With the room for a phase, all its chunks can be sent. -/
theorem sk_all (c : Dev nD) (p : Fin 3) :
    iprop((bigSep Finset.univ fun i => sk' (F := F) c p i) ∗ free (F := F) p c) ⊢ (bigSep Finset.univ fun i => sk (F := F) c p i : sProp 𝕄) := by
  unfold free
  rw [← bigSep_sep']
  exact bigSep_mono fun i _ => (show iprop(sk' (F := F) c p i ∗ any (F := F) (nb p c) (dstM p) i) ⊢ sk (F := F) c p i by
    unfold sk' sk
    iintro ⟨Hk, Hr⟩
    isplitl [Hr] <;> iassumption)

/-! ## An end's chunk -/

/-- The part of an end's chunk that is ready to be sent, but for the room at the other side. -/
def endA (c : Dev nD) (i : Fin 4) : sProp 𝕄 :=
  iprop(own c inM i fullShare (inC m ρ c i) ∗ sk' (F := F) c 0 i)
/-- The part of an end's chunk no phase of an end touches. -/
def endR (c : Dev nD) (i : Fin 4) : sProp 𝕄 :=
  iprop((any (F := F) c pendM i ∗ any (F := F) c psumM i ∗ any (F := F) c pmidM i)
    ∗ atS (F := F) c (snd 1 i) ∗ atS (F := F) c (snd 2 i) ∗ atS (F := F) c (rcv 0 i) ∗ atS (F := F) c (rcv 1 i))

/-- On an end, a chunk's arrays and cells apart, as the steps take them. -/
theorem end_split (c : Dev nD) (hc : isEnd c = true) (i : Fin 4) :
    iprop(mem m ρ c i ∗ bigSep Finset.univ fun p : Fin 3 => gh (F := F) c p i)
      ⊢ iprop(any (F := F) c outM i ∗ endA m ρ c i ∗ wk (F := F) c (rcv 2 i) N ∗ endR (F := F) c i) := by
  rw [Ring.bigSep_fin3]
  unfold mem gh endA endR sk'
  iintro ⟨⟨Hi, Ho, Hm⟩, ⟨⟨Ha, Hb⟩, ⟨Hs0, Hr0⟩, -⟩, ⟨-, ⟨Hs1, Hr1⟩, -⟩, ⟨-, ⟨Hs2, Hr2⟩, Hc2⟩⟩
  isplitl [Ho]; · iexact Ho
  isplitl [Hi Ha Hb Hs0]
  · isplitl [Hi]; · iexact Hi
    isplitl [Hs0]; · iexact Hs0
    isplitl [Ha] <;> iassumption
  isplitl [Hr2 Hc2]
  · iapply (wk_intro (F := F) c 2 i (by rw [show nb 2 c = pe c from rfl]; show (!isEnd (pe c)) = true; rw [isEnd_pe, hc]; rfl))
    isplitl [Hc2] <;> iassumption
  isplitl [Hm]; · iexact Hm
  isplitl [Hs1]; · iexact Hs1
  isplitl [Hs2]; · iexact Hs2
  isplitl [Hr0] <;> iassumption

/-- On an end, a chunk's last parts together again: the arrays, the result at its contents and the counters at zero. -/
theorem end_fin (c : Dev nD) (hc : isEnd c = true) (i : Fin 4) :
    iprop(env m ρ K ∗ (zr (F := F) c (rcv 2 i) ∗ own c outM i fullShare (val m ρ 2 (nb 2 c) i))
        ∗ (zr (F := F) c (snd 0 i) ∗ own c inM i fullShare (val m ρ 0 c i)) ∗ endR (F := F) c i)
      ⊢ (|={Set.univ}=> fin m ρ c i : sProp 𝕄) := by
  unfold fin endR
  rw [Ring.bigSep_fin3]
  iintro ⟨#He, ⟨Hzr, Ho⟩, ⟨Hzs, Hi⟩, Hm, Hs1, Hs2, Hr0, Hr1⟩
  have h0 : isEnd (pe c) = false := by rw [isEnd_pe, hc]; rfl
  have h1 : isEnd (ot c) = true := by rw [isEnd_ot, hc]
  imod (close_unused m ρ K c (snd 1 i) (if_neg (by show ¬ (!isEnd c) = true; rw [hc]; decide))) $$ [Hs1] with Hs1
  · isplitr <;> iassumption
  imod (close_unused m ρ K c (snd 2 i) (if_neg (by show ¬ (!isEnd c) = true; rw [hc]; decide))) $$ [Hs2] with Hs2
  · isplitr <;> iassumption
  imod (close_unused m ρ K c (rcv 0 i) (if_neg (by show ¬ isEnd (pe c) = true; rw [h0]; decide))) $$ [Hr0] with Hr0
  · isplitr <;> iassumption
  imod (close_unused m ρ K c (rcv 1 i) (if_neg (by show ¬ (!isEnd (ot c)) = true; rw [h1]; decide))) $$ [Hr1] with Hr1
  · isplitr <;> iassumption
  imodintro
  isplitl [Ho Hi Hm]
  · isplitl [Hi]; · iexists _; iexact Hi
    isplitl [Ho]
    · rw [show outC m ρ c i = val m ρ 2 (nb 2 c) i from if_pos hc]; iexact Ho
    iexact Hm
  isplitl [Hzs Hr0]
  · isplitl [Hzs] <;> iassumption
  isplitl [Hs1 Hr1]
  · isplitl [Hs1] <;> iassumption
  isplitl [Hs2] <;> iassumption

/-! ## A middle's chunk -/

/-- The part of a middle's chunk that makes the sum, but for the room at the other middle. -/
def midA (c : Dev nD) (i : Fin 4) : sProp 𝕄 :=
  iprop(own c inM i fullShare (inC m ρ c i) ∗ any (F := F) c psumM i ∗ wk (F := F) c (rcv 0 i) N)
/-- The same, the sum made and on its way; -/
def midB (c : Dev nD) (i : Fin 4) : sProp 𝕄 :=
  iprop(zr (F := F) c (rcv 0 i) ∗ own c inM i fullShare (inC m ρ c i) ∗ any (F := F) c pendM i)
/-- the share of the sum kept. -/
abbrev half (c : Dev nD) (i : Fin 4) : sProp 𝕄 := own c psumM i fullShare.right (psum m ρ c i)
/-- On a middle, a chunk's arrays and cells apart, as the steps take them. -/
theorem mid_split (c : Dev nD) (hc : isEnd c = false) (i : Fin 4) :
    iprop(mem m ρ c i ∗ bigSep Finset.univ fun p : Fin 3 => gh (F := F) c p i)
      ⊢ iprop((any (F := F) c pendM i ∗ any (F := F) c pmidM i) ∗ midA m ρ c i ∗ sk' (F := F) c 1 i ∗ (any (F := F) c outM i ∗ wk (F := F) c (rcv 1 i) N)
          ∗ sk' (F := F) c 2 i ∗ atS (F := F) c (snd 0 i) ∗ atS (F := F) c (rcv 2 i)) := by
  rw [Ring.bigSep_fin3]
  unfold mem gh midA sk'
  iintro ⟨⟨Hi, Ho, Hpe, Hps, Hpm⟩, ⟨-, ⟨Hs0, Hr0⟩, Hc0⟩, ⟨⟨Ha1, Hb1⟩, ⟨Hs1, Hr1⟩, Hc1⟩, ⟨⟨Ha2, Hb2⟩, ⟨Hs2, Hr2⟩, -⟩⟩
  isplitl [Hpe Hpm]
  · isplitl [Hpe] <;> iassumption
  isplitl [Hi Hps Hc0 Hr0]
  · isplitl [Hi]; · iexact Hi
    isplitl [Hps]; · iexact Hps
    iapply (wk_intro (F := F) c 0 i (by show isEnd (pe c) = true; rw [isEnd_pe, hc]; rfl))
    isplitl [Hc0] <;> iassumption
  isplitl [Ha1 Hb1 Hs1]
  · isplitl [Hs1]; · iexact Hs1
    isplitl [Ha1] <;> iassumption
  isplitl [Ho Hc1 Hr1]
  · isplitl [Ho]; · iexact Ho
    iapply (wk_intro (F := F) c 1 i (by show (!isEnd (ot c)) = true; rw [isEnd_ot, hc]; rfl))
    isplitl [Hc1] <;> iassumption
  isplitl [Ha2 Hb2 Hs2]
  · isplitl [Hs2]; · iexact Hs2
    isplitl [Ha2] <;> iassumption
  isplitl [Hs0] <;> iassumption

variable {α : Type}

/-- Receiving the end's chunk, adding it, and sending the sum to the other middle. -/
theorem run_red {Q : α → sProp 𝕄} (i : Fin 4) (c n : Dev nD) (hn : n = ot c) (hc : isEnd c = false) (l : List (Dev nD × CK))
    (hl : ∀ k ∈ l.map Prod.snd, 2 < lvK k) {q : DmaSem sig} (hq : q = rcvQ 0 i)
    {sS sR : SemLoc sig} (hS : sS = .dma (sndQ 1 i)) (hR : sR = .dma (rcvQ 1 i)) {w : Vec F S128x512 .bf16 → Vec F S128x512 .bf16 → Vec F S128x512 .bf16}
    (hw : w = k0_pay2)
    {a : Memref sig .tc .vmem S128x512 .bf16} {h1 h2 h3 h4 h5 h6 h7 h8 h9 h10 h11} {k : PUnit → Prog (TpuEff nD τ sig (Elt F) Λ₀ .tc) α} :
    iprop(env m ρ K ∗ midA m ρ c i ∗ sk (F := F) c 1 i ∗ ow (F := F) c ((ot c, rcv 1 i) :: l))
      ⊢ iprop(((midB m ρ c i ∗ half m ρ c i ∗ wk (F := F) c (snd 1 i) N ∗ ow (F := F) c l) -∗ run c (k ⟨⟩) Q)
          -∗ run c (.op (.waitDma2 q a (ch pendM i) h1 h2) fun _ =>
              .op (.load inM (rk i).toLoadRect h3) fun x =>
              .op (.load pendM (rk i).toLoadRect h4) fun y =>
              .op (.load psumM (rk i).toLoadRect h5) fun _ =>
              .op (.store psumM (rk i) (w x y) Finset.univ h6 h7) fun _ =>
              .op (.enqueueDma (ch psumM i) (.remote (Dev.tc n : Thread nD τ) (ch pmidM i) sS h8) sR h9 h10 h11) k) Q) := by
  subst hw
  unfold midA midB
  iintro ⟨#He, ⟨Hi, ⟨%X, Hps⟩, Hw⟩, Hsk, HO⟩
  iintro Hk
  iapply (run_recv m ρ K 0 i c (by show isEnd (pe c) = true; rw [isEnd_pe, hc]; rfl) hq ((ot c, rcv 1 i) :: l)
    (fun k hk => by
      rcases List.mem_cons.mp hk with rfl | hk
      · show 2 < 3 + i.val; omega
      · exact hl k hk)) $$ [Hw HO]
  · isplitr; · iexact He
    isplitl [Hw] <;> iassumption
  iintro ⟨Hz, Hpe, HO⟩
  iapply (run_load c inM i) $$ Hi; iintro Hi
  iapply (run_load c pendM i) $$ Hpe; iintro Hpe
  iapply (run_load c psumM i) $$ Hps; iintro Hps
  iapply (run_store c psumM i) $$ [Hps]
  · iexists X; iexact Hps
  iintro Hps
  ihave Hps2 := (owns_halves (c : Thread nD τ) (ch psumM i) fullShare _).1 $$ Hps
  icases Hps2 with ⟨Hl, Hr⟩
  iapply (run_send m ρ K 1 i c n hn (by show (!isEnd c) = true; rw [hc]; rfl) l hS hR) $$ [Hl Hsk HO]
  · isplitr; · iexact He
    isplitl [Hl]; · iexact Hl
    isplitl [Hsk]; · iexact Hsk
    iexact HO
  iintro ⟨Hw, HO⟩
  iapply Hk
  isplitl [Hz Hi Hpe]
  · isplitl [Hz]; · iexact Hz
    isplitl [Hi]; · iexact Hi
    iexists _; iexact Hpe
  isplitl [Hr]; · iexact Hr
  isplitl [Hw] <;> iassumption

/-- Receiving the other middle's sum, adding it, and sending the total to the end. -/
theorem run_tot {Q : α → sProp 𝕄} (i : Fin 4) (c n : Dev nD) (hn : n = pe c) (hc : isEnd c = false) (l : List (Dev nD × CK))
    (hl : ∀ k ∈ l.map Prod.snd, 3 + i.val < lvK k) {q : DmaSem sig} (hq : q = rcvQ 1 i)
    {sS sR : SemLoc sig} (hS : sS = .dma (sndQ 2 i)) (hR : sR = .dma (rcvQ 2 i)) {w : Vec F S128x512 .bf16 → Vec F S128x512 .bf16 → Vec F S128x512 .bf16}
    (hw : w = k0_pay4)
    {a : Memref sig .tc .vmem S128x512 .bf16} {h1 h2 h3 h4 h5 h6 h7 h8 h9 h10 h11} {k : PUnit → Prog (TpuEff nD τ sig (Elt F) Λ₀ .tc) α} :
    iprop(env m ρ K ∗ half m ρ c i ∗ (any (F := F) c outM i ∗ wk (F := F) c (rcv 1 i) N) ∗ sk (F := F) c 2 i ∗ ow (F := F) c ((pe c, rcv 2 i) :: l))
      ⊢ iprop(((half m ρ c i ∗ (zr (F := F) c (rcv 1 i) ∗ any (F := F) c pmidM i) ∗ wk (F := F) c (snd 2 i) N ∗ ow (F := F) c l) -∗ run c (k ⟨⟩) Q)
          -∗ run c (.op (.waitDma2 q a (ch pmidM i) h1 h2) fun _ =>
              .op (.load psumM (rk i).toLoadRect h3) fun x =>
              .op (.load pmidM (rk i).toLoadRect h4) fun y =>
              .op (.load outM (rk i).toLoadRect h5) fun _ =>
              .op (.store outM (rk i) (w x y) Finset.univ h6 h7) fun _ =>
              .op (.enqueueDma (ch outM i) (.remote (Dev.tc n : Thread nD τ) (ch outM i) sS h8) sR h9 h10 h11) k) Q) := by
  subst hw
  iintro ⟨#He, Hh, ⟨⟨%X, Ho⟩, Hw⟩, Hsk, HO⟩
  iintro Hk
  iapply (run_recv m ρ K 1 i c (by show (!isEnd (ot c)) = true; rw [isEnd_ot, hc]; rfl) hq ((pe c, rcv 2 i) :: l)
    (fun k hk => by
      rcases List.mem_cons.mp hk with rfl | hk
      · show 3 + i.val < 10; omega
      · exact hl k hk)) $$ [Hw HO]
  · isplitr; · iexact He
    isplitl [Hw] <;> iassumption
  iintro ⟨Hz, Hpm, HO⟩
  iapply (run_load c psumM i) $$ Hh; iintro Hh
  iapply (run_load c pmidM i) $$ Hpm; iintro Hpm
  iapply (run_load c outM i) $$ Ho; iintro Ho
  iapply (run_store c outM i) $$ [Ho]
  · iexists X; iexact Ho
  iintro Ho
  iapply (run_send m ρ K 2 i c n hn (by show (!isEnd c) = true; rw [hc]; rfl) l hS hR) $$ [Ho Hsk HO]
  · isplitr; · iexact He
    isplitl [Ho]; · iexact Ho
    isplitl [Hsk]; · iexact Hsk
    iexact HO
  iintro ⟨Hw, HO⟩
  iapply Hk
  isplitl [Hh]; · iexact Hh
  isplitl [Hz Hpm]
  · isplitl [Hz]; · iexact Hz
    iexists _; iexact Hpm
  isplitl [Hw] <;> iassumption

/-- On a middle, a chunk's last parts together again: the arrays, the result at its contents and the counters at zero. -/
theorem mid_fin (c : Dev nD) (hc : isEnd c = false) (i : Fin 4) :
    iprop(env m ρ K ∗ midB m ρ c i ∗ half m ρ c i ∗ (zr (F := F) c (rcv 1 i) ∗ any (F := F) c pmidM i)
        ∗ (zr (F := F) c (snd 1 i) ∗ own c psumM i fullShare.left (val m ρ 1 c i)) ∗ (zr (F := F) c (snd 2 i) ∗ own c outM i fullShare (val m ρ 2 c i))
        ∗ atS (F := F) c (snd 0 i) ∗ atS (F := F) c (rcv 2 i))
      ⊢ (|={Set.univ}=> fin m ρ c i : sProp 𝕄) := by
  unfold fin midB
  rw [Ring.bigSep_fin3]
  iintro ⟨#He, ⟨Hr0, Hi, Hpe⟩, Hh, ⟨Hr1, Hpm⟩, ⟨Hs1, Hl⟩, ⟨Hs2, Ho⟩, Hs0, Hr2⟩
  have h0 : isEnd (pe c) = true := by rw [isEnd_pe, hc]; rfl
  imod (close_unused m ρ K c (snd 0 i) (if_neg (by show ¬ isEnd c = true; rw [hc]; decide))) $$ [Hs0] with Hs0
  · isplitr <;> iassumption
  imod (close_unused m ρ K c (rcv 2 i) (if_neg (by show ¬ (!isEnd (pe c)) = true; rw [h0]; decide))) $$ [Hr2] with Hr2
  · isplitr <;> iassumption
  ihave Hps := (owns_halves (c : Thread nD τ) (ch psumM i) fullShare (psum m ρ c i)).2 $$ [Hl Hh]
  · isplitl [Hl]; · iexact Hl
    iexact Hh
  imodintro
  isplitl [Hi Ho Hpe Hps Hpm]
  · isplitl [Hi]; · iexists _; iexact Hi
    isplitl [Ho]
    · rw [show outC m ρ c i = val m ρ 2 c i from if_neg (by rw [hc]; decide)]; iexact Ho
    isplitl [Hpe]; · iexact Hpe
    isplitl [Hps]; · iexists _; iexact Hps
    iexact Hpm
  isplitl [Hs0 Hr0]
  · isplitl [Hs0] <;> iassumption
  isplitl [Hs1 Hr1]
  · isplitl [Hs1] <;> iassumption
  isplitl [Hs2] <;> iassumption

end Cert.Run

end
-- ==== Proof.Body.lean ====
/-
# The body

The kernel's body on one device, run from what the launch deals to the closed cells and the result.
-/
module

public import proofs.«01_k».proof.Proof.Stages

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-- Over the four chunks, one by one. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## Whole arrays and their chunks -/

/-- Device `c` holds all of `b`, whatever it holds. -/
abbrev wh (c : Dev nD) (b : Memref sig .tc .vmem S512x512 .bf16) : sProp 𝕄 := iprop(∃ X, owns (Ix := Unit) (Val := Elt F) (Name := ℕ) (U := UU) (Lvl := ℕ) (c : Thread nD τ) b fullShare X)

/-- A whole array is its four chunks; -/
theorem wh_split (c : Dev nD) (b : Memref sig .tc .vmem S512x512 .bf16) : wh (F := F) c b ⊢ bigSep Finset.univ fun i => any (F := F) c b i := by
  iintro ⟨%X, H⟩
  iapply ((owns_rects (c : Thread nD τ) b fullShare rk (fun _ _ => rfl) rk_disjoint rk_cover X).trans
    (bigSep_mono fun i _ => show own c b i fullShare (fun j => X ((rk i).emb j)) ⊢ any (F := F) c b i from by iintro H; iexists _; iexact H))
  iexact H

/-- four chunks at known contents are the array at those contents, -/
theorem wh_join (c : Dev nD) (b : Memref sig .tc .vmem S512x512 .bf16) (X : Fin 4 → Vec F S128x512 .bf16) :
    (bigSep Finset.univ fun i => own c b i fullShare (X i)) ⊢ (owns (c : Thread nD τ) b fullShare (Rect.glue rk rk_cover X) : sProp 𝕄) := by
  refine (Entails.of_eq (bigSep_congr fun i _ => ?_)).trans
    (owns_of_rects (c : Thread nD τ) b fullShare rk (fun _ _ => rfl) rk_disjoint rk_cover (Rect.glue rk rk_cover X))
  rw [show (fun j => Rect.glue rk rk_cover X ((rk i).emb j)) = X i from funext fun j => Rect.glue_emb rk rk_cover rk_disjoint X i j]

/-- and at any contents the array at some contents. -/
theorem wh_any (c : Dev nD) (b : Memref sig .tc .vmem S512x512 .bf16) : (bigSep Finset.univ fun i => any (F := F) c b i) ⊢ wh (F := F) c b := by
  haveI : Nonempty (Vec F S128x512 .bf16) := ⟨fun _ => (Elt.nonempty F .bf16).some⟩
  iintro H
  ihave H := (BI.bigSep_exists_pi Finset.univ (fun (i : Fin 4) (X : Vec F S128x512 .bf16) => own c b i fullShare X)) $$ H
  icases H with ⟨%X, H⟩
  iexists _
  iapply (wh_join c b X); iexact H

/-! ## Start and finish -/

/-- What the body starts from, beside the invariants and the levels. -/
def bodyPre (c : Dev nD) : sProp 𝕄 :=
  iprop(ow (F := F) c (payL c) ∗ wk (F := F) c bar (cnt c bar * amt bar)
    ∗ dutyTok ER (cell (pe c, bar)) 0 (0 : Fin 2) ∗ dutyTok ER (cell (ot c, bar)) 0 (1 : Fin 2)
    ∗ (bigSep Finset.univ fun i : Fin 4 => bigSep Finset.univ fun p : Fin 3 => gh (F := F) c p i)
    ∗ owns (c : Thread nD τ) xM fullShare (xstg m ρ c) ∗ wh (F := F) c outM
    ∗ wh (F := F) c inM ∗ wh (F := F) c pendM ∗ wh (F := F) c psumM ∗ wh (F := F) c pmidM)
/-- What it ends with. -/
def bodyPost (c : Dev nD) : sProp 𝕄 :=
  iprop(ow (F := F) c [] ∗ zr (F := F) c bar ∗ owns (c : Thread nD τ) xM fullShare (xstg m ρ c) ∗ bigSep Finset.univ fun i : Fin 4 => fin m ρ c i)

/-- The first branch is taken on an end, -/
theorem cond1_eq (c : Dev nD) : k0_cond1 c = 1#1 ↔ isEnd c = true := by revert c; decide
/-- the second on a middle. -/
theorem cond2_eq (c : Dev nD) : k0_cond2 c = 1#1 ↔ isEnd c = false := by revert c; decide

/-- The zero offset, as a function. -/
theorem hz : (![0, 0] : Fin 2 → Nat) = fun _ => 0 := funext fun a => by fin_cases a <;> rfl

variable {α : Type}

/-- The opening: the input is copied. -/
theorem run_copy {Q : α → sProp 𝕄} (c : Dev nD) {X : Vec F S512x512 .bf16} {i1 i2 i3} {h1 h2 h3 h4}
    {k : PUnit → Prog (TpuEff nD τ sig (Elt F) Λ₀ .tc) α} :
    iprop(owns (c : Thread nD τ) xM fullShare X ∗ wh (F := F) c inM)
      ⊢ iprop(((owns (c : Thread nD τ) xM fullShare X ∗ owns (c : Thread nD τ) inM fullShare (k0_pay1 X)) -∗ run c (k ⟨⟩) Q)
        -∗ run c (.op (.load xM (Rect.unit (s := S512x512) ![0, 0] S512x512.size i1).toLoadRect h1) fun x =>
            .op (.load inM (Rect.unit (s := S512x512) ![0, 0] S512x512.size i2).toLoadRect h2) fun _ =>
            .op (.store inM (Rect.unit (s := S512x512) ![0, 0] S512x512.size i3) (k0_pay1 x) Finset.univ h3 h4) k) Q) := by
  iintro ⟨Hx, ⟨%Y, Hi⟩⟩
  iintro Hk
  ihave Hx := (Entails.of_eq (owns_whole (c : Thread nD τ) cc0_stg0_0 fullShare X)) $$ Hx
  ihave Hi := (Entails.of_eq (owns_whole (c : Thread nD τ) cc0_scratch0 fullShare Y)) $$ Hi
  iapply (wp_load 𝒱₀ (c : Thread nD τ) none Set.univ (m := xM) (Finset.subset_univ _)) $$ Hx; iintro Hx
  rw [show xM.view.readAt (Elt F) (Rect.unit (s := S512x512) ![0, 0] S512x512.size i1).toLoadRect X = X from
    Memref.readAt_unit_zero (Elt F) cc0_stg0_0 hz _ X]
  iapply (wp_load 𝒱₀ (c : Thread nD τ) none Set.univ (m := inM) (Finset.subset_univ _)) $$ Hi; iintro Hi
  iapply (wp_store 𝒱₀ (c : Thread nD τ) none Set.univ (m := inM) (r := Rect.unit (s := S512x512) ![0, 0] S512x512.size i3) (Mk := Finset.univ)
    (Finset.subset_univ _)) $$ Hi; iintro Hi
  rw [show (inM.access (Rect.unit (s := S512x512) ![0, 0] S512x512.size i3) : View sig .tc _ _ _).write (Elt F) Y (k0_pay1 X) Finset.univ = k0_pay1 X from
    Memref.write_access_unit_zero_univ (Elt F) cc0_scratch0 hz _ Y _]
  iapply Hk
  isplitl [Hx]
  · iapply (Entails.of_eq (owns_whole (c : Thread nD τ) cc0_stg0_0 fullShare X).symm); iexact Hx
  · iapply (Entails.of_eq (owns_whole (c : Thread nD τ) cc0_scratch0 fullShare (k0_pay1 X)).symm); iexact Hi

/-- The arrays as chunks. -/
theorem mem_intro (c : Dev nD) :
    iprop(owns (c : Thread nD τ) inM fullShare (inA m ρ c) ∗ wh (F := F) c outM ∗ wh (F := F) c pendM ∗ wh (F := F) c psumM ∗ wh (F := F) c pmidM)
      ⊢ (bigSep Finset.univ fun i => mem m ρ c i : sProp 𝕄) := by
  unfold mem
  rw [bigSep_sep', bigSep_sep', bigSep_sep', bigSep_sep']
  iintro ⟨Hi, Ho, Hpe, Hps, Hpm⟩
  isplitl [Hi]
  · iapply (owns_rects (c : Thread nD τ) inM fullShare rk (fun _ _ => rfl) rk_disjoint rk_cover (inA m ρ c)); iexact Hi
  isplitl [Ho]; · iapply (wh_split c outM); iexact Ho
  isplitl [Hpe]; · iapply (wh_split c pendM); iexact Hpe
  isplitl [Hps]; · iapply (wh_split c psumM); iexact Hps
  iapply (wh_split c pmidM); iexact Hpm

end Cert.Run

end
-- ==== Proof.End.lean ====
/-
# The body on an end

The kernel's body on an end: it sends its array to the middle beside it and waits for the total.
-/
module

public import proofs.«01_k».proof.Proof.Body

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-- The kernel's body on device `c`. -/
abbrev body (c : Dev nD) : Prog (TpuEff nD τ sig (Elt F) Λ₀ .tc) PUnit :=
  cc0_body (F := F) xM (Memref.isWhole_whole _) outM (Memref.isWhole_whole _) inM (Memref.isWhole_whole _) pendM (Memref.isWhole_whole _)
    psumM (Memref.isWhole_whole _) pmidM (Memref.isWhole_whole _) cc0_scratch4 cc0_scratch5

/-- All of an end's chunks, made ready. -/
theorem end_chunks (c : Dev nD) (hc : isEnd c = true) :
    iprop((bigSep Finset.univ fun i : Fin 4 => mem m ρ c i) ∗ bigSep Finset.univ fun i : Fin 4 => bigSep Finset.univ fun p : Fin 3 => gh (F := F) c p i)
      ⊢ iprop((bigSep Finset.univ fun i => any (F := F) c outM i) ∗ (bigSep Finset.univ fun i => endA m ρ c i)
          ∗ (bigSep Finset.univ fun i => wk (F := F) c (rcv 2 i) N) ∗ bigSep Finset.univ fun i => endR (F := F) c i) := by
  rw [← bigSep_sep', ← bigSep_sep', ← bigSep_sep', ← bigSep_sep']
  exact bigSep_mono fun i _ => end_split m ρ c hc i

/-- What the device beside `c` hands over by its signal: room for an end's array, or for a middle's total. -/
theorem pay_bar0 (c : Dev nD) : pay m ρ c bar 0 = if isEnd c then free (F := F) 0 c else free 2 c := by
  show (if (0 : Fin 2) = 0 then (if isEnd c then free (F := F) 0 c else free 2 c) else free 1 c) = _
  rw [if_pos rfl]

/-- The room the barrier brings, with the chunks to be sent. -/
theorem end_room (c : Dev nD) (hc : isEnd c = true) :
    iprop((bigSep Finset.univ fun i => endA m ρ c i) ∗ bigSep (dty c bar) (pay m ρ c bar))
      ⊢ iprop((bigSep Finset.univ fun i : Fin 4 => own c inM i fullShare (inC m ρ c i)) ∗ bigSep Finset.univ fun i : Fin 4 => sk (F := F) c 0 i) := by
  rw [show dty c bar = {0} from if_pos hc, bigSep_singleton, pay_bar0, if_pos hc]
  unfold endA
  rw [bigSep_sep']
  iintro ⟨⟨Hi, Hk⟩, Hr⟩
  isplitl [Hi]; · iexact Hi
  iapply (sk_all (F := F) c 0)
  isplitl [Hk] <;> iassumption

/-- On an end the device named by id 2 is the middle beside it. -/
theorem dev_eq2 (c : Dev nD) (h : k0_cond1 c = 1#1) : k0_dev2 c = (pe c).val := by revert c; decide
/-- On an end the device named by id 3 is the middle beside it. -/
theorem dev_eq3 (c : Dev nD) (h : k0_cond1 c = 1#1) : k0_dev3 c = (pe c).val := by revert c; decide
/-- On an end the device named by id 4 is the middle beside it. -/
theorem dev_eq4 (c : Dev nD) (h : k0_cond1 c = 1#1) : k0_dev4 c = (pe c).val := by revert c; decide
/-- On an end the device named by id 5 is the middle beside it. -/
theorem dev_eq5 (c : Dev nD) (h : k0_cond1 c = 1#1) : k0_dev5 c = (pe c).val := by revert c; decide
/-- On an end the device named by id 1 is the middle beside it. -/
theorem dev_eq1 (c : Dev nD) (h : k0_cond1 c = 1#1) : k0_dev1 c = (pe c).val := by revert c; decide
/-- The device beside pays every barrier. -/
theorem bar_zero (d : Dev nD) : 0 ∈ dty d bar := by revert d; decide

/-- What an end hands over by its signal: its result's chunks. -/
theorem pay_end (c : Dev nD) (hc : isEnd c = true) :
    (bigSep Finset.univ fun i => any (F := F) c outM i) ⊢ pay m ρ (pe c) bar 0 := by
  have h : isEnd (pe c) = false := by rw [isEnd_pe, hc]; rfl
  rw [pay_bar0, if_neg (by rw [h]; decide)]
  unfold free
  rw [show nb 2 (pe c) = c from pe_pe c]

set_option maxHeartbeats 1600000 in
/-- The body on an end. -/
theorem body_end (c : Dev nD) (hc : isEnd c = true) :
    iprop(env m ρ K ∗ bodyPre m ρ c) ⊢ run c (body (F := F) c) (fun _ => bodyPost m ρ c) := by
  have h1 : k0_cond1 c = 1#1 := (cond1_eq c).mpr hc
  have h2 : ¬ k0_cond2 c = 1#1 := fun h => by have := (cond2_eq c).mp h; rw [hc] at this; cases this
  have hr : sender 2 (nb 2 c) = true := by show (!isEnd (pe c)) = true; rw [isEnd_pe, hc]; rfl
  unfold body run
  simp only [cc0_body_eq_skeleton]; unfold cc0_body_skel
  simp only [Prog.lift, Prog.bind_op, Prog.bind_ret, Prog.pure_eq_ret, wp_deviceId, dif_pos h1, dif_neg h2,
    k0_part1_eq_skeleton, k0_part2_eq_skeleton, k0_part3_eq_skeleton, k0_part4_eq_skeleton,
    k0_part1_skel, k0_part2_skel, k0_part3_skel, k0_part4_skel, semSignalWord, semWaitWord]
  unfold bodyPre
  rw [cnt_bar, if_pos hc, show payL c = endL c from if_pos hc]
  unfold endL
  iintro ⟨#He, HO, Hw, Ht, -, Hgh, Hx, Hout, Hin, Hpe, Hps, Hpm⟩
  iapply (run_copy c) $$ [Hx Hin]
  · isplitl [Hx] <;> iassumption
  iintro ⟨Hx, Hin⟩
  ihave Hmem := (mem_intro m ρ c) $$ [Hin Hout Hpe Hps Hpm]
  · isplitl [Hin]; · iexact Hin
    isplitl [Hout]; · iexact Hout
    isplitl [Hpe]; · iexact Hpe
    isplitl [Hps] <;> iassumption
  ihave Hch := (end_chunks m ρ c hc) $$ [Hmem Hgh]
  · isplitl [Hmem] <;> iassumption
  icases Hch with ⟨Hout, HA, HB, HR⟩
  -- the signal hands over the room for the total
  iapply (run_signal m ρ K c (pe c) _ (Fin.ext (dev_eq1 c h1)) 0 (bar_zero (pe c)) _ rfl) $$ [Ht Hout HO]
  · isplitr; · iexact He
    isplitl [Ht]; · iexact Ht
    isplitl [Hout]; · iapply (pay_end m ρ c hc); iexact Hout
    iexact HO
  iintro HO
  -- the wait brings the room for the array
  iapply (run_wait m ρ K c bar (wpE_semWait_eq 𝒱₀ (c : Thread nD τ) none Set.univ) rfl (by show _ = _; rw [Nat.one_mul]; rfl) (n := 1 * amt bar)
    (by rw [show dty c bar = {0} from if_pos hc]; rfl) [(pe c, rcv 0 0), (pe c, rcv 0 1), (pe c, rcv 0 2), (pe c, rcv 0 3)]
    (show ∀ k ∈ [rcv 0 0, rcv 0 1, rcv 0 2, rcv 0 3], lvK bar < lvK k by decide)) $$ [Hw HO]
  · isplitr; · iexact He
    isplitl [Hw] <;> iassumption
  iintro ⟨Hz, Hroom, HO⟩
  ihave HA := (end_room m ρ c hc) $$ [HA Hroom]
  · isplitl [HA] <;> iassumption
  icases HA with ⟨HI, HA⟩
  ihave HI := (Entails.of_eq (four fun i => own c inM i fullShare (inC m ρ c i))) $$ HI
  ihave HA := (Entails.of_eq (four fun i => sk (F := F) c 0 i)) $$ HA
  ihave HB := (Entails.of_eq (four fun i => wk (F := F) c (rcv 2 i) N)) $$ HB
  icases HI with ⟨Hi0, Hi1, Hi2, Hi3⟩
  icases HA with ⟨Hk0, Hk1, Hk2, Hk3⟩
  icases HB with ⟨HB0, HB1, HB2, HB3⟩
  -- the four sends
  iapply (run_send m ρ K 0 0 c _ (Fin.ext (dev_eq2 c h1)) hc _ rfl rfl) $$ [Hi0 Hk0 HO]
  · isplitr; · iexact He
    isplitl [Hi0]; · iexact Hi0
    isplitl [Hk0]; · iexact Hk0
    iexact HO
  iintro ⟨HS0, HO⟩
  iapply (run_send m ρ K 0 1 c _ (Fin.ext (dev_eq3 c h1)) hc _ rfl rfl) $$ [Hi1 Hk1 HO]
  · isplitr; · iexact He
    isplitl [Hi1]; · iexact Hi1
    isplitl [Hk1]; · iexact Hk1
    iexact HO
  iintro ⟨HS1, HO⟩
  iapply (run_send m ρ K 0 2 c _ (Fin.ext (dev_eq4 c h1)) hc _ rfl rfl) $$ [Hi2 Hk2 HO]
  · isplitr; · iexact He
    isplitl [Hi2]; · iexact Hi2
    isplitl [Hk2]; · iexact Hk2
    iexact HO
  iintro ⟨HS2, HO⟩
  iapply (run_send m ρ K 0 3 c _ (Fin.ext (dev_eq5 c h1)) hc _ rfl rfl) $$ [Hi3 Hk3 HO]
  · isplitr; · iexact He
    isplitl [Hi3]; · iexact Hi3
    isplitl [Hk3]; · iexact Hk3
    iexact HO
  iintro ⟨HS3, HO⟩
  -- the total comes
  iapply (run_recv m ρ K 2 0 c hr rfl [] nofun) $$ [HB0 HO]
  · isplitr; · iexact He
    isplitl [HB0] <;> iassumption
  iintro ⟨HZ0, HX0, HO⟩
  iapply (run_recv m ρ K 2 1 c hr rfl [] nofun) $$ [HB1 HO]
  · isplitr; · iexact He
    isplitl [HB1] <;> iassumption
  iintro ⟨HZ1, HX1, HO⟩
  iapply (run_recv m ρ K 2 2 c hr rfl [] nofun) $$ [HB2 HO]
  · isplitr; · iexact He
    isplitl [HB2] <;> iassumption
  iintro ⟨HZ2, HX2, HO⟩
  iapply (run_recv m ρ K 2 3 c hr rfl [] nofun) $$ [HB3 HO]
  · isplitr; · iexact He
    isplitl [HB3] <;> iassumption
  iintro ⟨HZ3, HX3, HO⟩
  -- the sends are over
  iapply (run_sent m ρ K 0 0 c hc rfl [] nofun) $$ [HS0 HO]
  · isplitr; · iexact He
    isplitl [HS0] <;> iassumption
  iintro ⟨HY0, Hi0, HO⟩
  iapply (run_sent m ρ K 0 1 c hc rfl [] nofun) $$ [HS1 HO]
  · isplitr; · iexact He
    isplitl [HS1] <;> iassumption
  iintro ⟨HY1, Hi1, HO⟩
  iapply (run_sent m ρ K 0 2 c hc rfl [] nofun) $$ [HS2 HO]
  · isplitr; · iexact He
    isplitl [HS2] <;> iassumption
  iintro ⟨HY2, Hi2, HO⟩
  iapply (run_sent m ρ K 0 3 c hc rfl [] nofun) $$ [HS3 HO]
  · isplitr; · iexact He
    isplitl [HS3] <;> iassumption
  iintro ⟨HY3, Hi3, HO⟩
  ihave HR := (Entails.of_eq (four fun i => endR (F := F) c i)) $$ HR
  icases HR with ⟨HR0, HR1, HR2, HR3⟩
  imod (end_fin m ρ K c hc 0) $$ [HZ0 HX0 HY0 Hi0 HR0] with HF0
  · isplitr; · iexact He
    isplitl [HZ0 HX0]
    · isplitl [HZ0] <;> iassumption
    isplitl [HY0 Hi0]
    · isplitl [HY0] <;> iassumption
    iexact HR0
  imod (end_fin m ρ K c hc 1) $$ [HZ1 HX1 HY1 Hi1 HR1] with HF1
  · isplitr; · iexact He
    isplitl [HZ1 HX1]
    · isplitl [HZ1] <;> iassumption
    isplitl [HY1 Hi1]
    · isplitl [HY1] <;> iassumption
    iexact HR1
  imod (end_fin m ρ K c hc 2) $$ [HZ2 HX2 HY2 Hi2 HR2] with HF2
  · isplitr; · iexact He
    isplitl [HZ2 HX2]
    · isplitl [HZ2] <;> iassumption
    isplitl [HY2 Hi2]
    · isplitl [HY2] <;> iassumption
    iexact HR2
  imod (end_fin m ρ K c hc 3) $$ [HZ3 HX3 HY3 Hi3 HR3] with HF3
  · isplitr; · iexact He
    isplitl [HZ3 HX3]
    · isplitl [HZ3] <;> iassumption
    isplitl [HY3 Hi3]
    · isplitl [HY3] <;> iassumption
    iexact HR3
  rw [wp_ret]
  imodintro
  unfold bodyPost
  isplitl [HO]; · iexact HO
  isplitl [Hz]; · iexact Hz
  isplitl [Hx]; · iexact Hx
  iapply (Entails.of_eq (four fun i => fin m ρ c i).symm)
  isplitl [HF0]; · iexact HF0
  isplitl [HF1]; · iexact HF1
  isplitl [HF2] <;> iassumption

end Cert.Run

end
-- ==== Proof.Mid.lean ====
/-
# The body on a middle

The kernel's body on a middle: it adds what it receives and sends it on, chunk by chunk.
-/
module

public import proofs.«01_k».proof.Proof.End

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-- All of a middle's chunks, made ready. -/
theorem mid_chunks (c : Dev nD) (hc : isEnd c = false) :
    iprop((bigSep Finset.univ fun i : Fin 4 => mem m ρ c i) ∗ bigSep Finset.univ fun i : Fin 4 => bigSep Finset.univ fun p : Fin 3 => gh (F := F) c p i)
      ⊢ iprop(((bigSep Finset.univ fun i => any (F := F) c pendM i) ∗ (bigSep Finset.univ fun i => any (F := F) c pmidM i))
          ∗ (bigSep Finset.univ fun i => midA m ρ c i) ∗ (bigSep Finset.univ fun i => sk' (F := F) c 1 i)
          ∗ (bigSep Finset.univ fun i => iprop(any (F := F) c outM i ∗ wk (F := F) c (rcv 1 i) N))
          ∗ (bigSep Finset.univ fun i => sk' (F := F) c 2 i)
          ∗ bigSep Finset.univ fun i => iprop(atS (F := F) c (snd 0 i) ∗ atS (F := F) c (rcv 2 i))) := by
  rw [← bigSep_sep', ← bigSep_sep', ← bigSep_sep', ← bigSep_sep', ← bigSep_sep', ← bigSep_sep', ← bigSep_sep']
  exact bigSep_mono fun i _ => mid_split m ρ c hc i

/-- What a middle hands over to the end beside it: the room for the end's array; -/
theorem pay_pend (c : Dev nD) (hc : isEnd c = false) :
    (bigSep Finset.univ fun i => any (F := F) c pendM i) ⊢ pay m ρ (pe c) bar 0 := by
  rw [pay_bar0, if_pos (by rw [isEnd_pe, hc]; rfl)]
  unfold free
  rw [show nb 0 (pe c) = c from pe_pe c]
/-- and to the other middle: the room for its sum. -/
theorem pay_pmid (c : Dev nD) : (bigSep Finset.univ fun i => any (F := F) c pmidM i) ⊢ pay m ρ (ot c) bar 1 := by
  show _ ⊢ if (1 : Fin 2) = 0 then (if isEnd (ot c) then free (F := F) 0 (ot c) else free 2 (ot c)) else free 1 (ot c)
  rw [if_neg (by decide)]
  unfold free
  rw [show nb 1 (ot c) = c from ot_ot c]

/-- The room the barrier brings a middle. -/
theorem mid_room (c : Dev nD) (hc : isEnd c = false) :
    bigSep (dty c bar) (pay m ρ c bar) ⊢ iprop(free (F := F) 2 c ∗ free (F := F) 1 c) := by
  rw [show dty c bar = Finset.univ from if_neg (by rw [hc]; decide), bigSep_univ_eq_bigSepL [0, 1] (by decide) (by decide)]
  show iprop(pay m ρ c bar 0 ∗ pay m ρ c bar 1) ⊢ _
  rw [pay_bar0, if_neg (by rw [hc]; decide)]
  rw [show pay m ρ c bar 1 = free (F := F) 1 c from
    (show (if (1 : Fin 2) = 0 then (if isEnd c then free (F := F) 0 c else free 2 c) else free 1 c) = _ by rw [if_neg (by decide)])]

/-- The other middle pays a middle's barrier too. -/
theorem bar_one (d : Dev nD) (h : isEnd d = false) : 1 ∈ dty d bar := by revert d; decide

/-- On a middle the device named by id 6 is the end beside it. -/
theorem dev_eq6 (c : Dev nD) (h : k0_cond2 c = 1#1) : k0_dev6 c = (pe c).val := by revert c; decide
/-- On a middle the device named by id 7 is the other middle. -/
theorem dev_eq7 (c : Dev nD) (h : k0_cond2 c = 1#1) : k0_dev7 c = (ot c).val := by revert c; decide
/-- On a middle the device named by id 8 is the other middle. -/
theorem dev_eq8 (c : Dev nD) (h : k0_cond2 c = 1#1) : k0_dev8 c = (ot c).val := by revert c; decide
/-- On a middle the device named by id 9 is the other middle. -/
theorem dev_eq9 (c : Dev nD) (h : k0_cond2 c = 1#1) : k0_dev9 c = (ot c).val := by revert c; decide
/-- On a middle the device named by id 10 is the end beside it. -/
theorem dev_eq10 (c : Dev nD) (h : k0_cond2 c = 1#1) : k0_dev10 c = (pe c).val := by revert c; decide
/-- On a middle the device named by id 11 is the other middle. -/
theorem dev_eq11 (c : Dev nD) (h : k0_cond2 c = 1#1) : k0_dev11 c = (ot c).val := by revert c; decide
/-- On a middle the device named by id 12 is the end beside it. -/
theorem dev_eq12 (c : Dev nD) (h : k0_cond2 c = 1#1) : k0_dev12 c = (pe c).val := by revert c; decide
/-- On a middle the device named by id 13 is the other middle. -/
theorem dev_eq13 (c : Dev nD) (h : k0_cond2 c = 1#1) : k0_dev13 c = (ot c).val := by revert c; decide
/-- On a middle the device named by id 14 is the end beside it. -/
theorem dev_eq14 (c : Dev nD) (h : k0_cond2 c = 1#1) : k0_dev14 c = (pe c).val := by revert c; decide
/-- On a middle the device named by id 15 is the end beside it. -/
theorem dev_eq15 (c : Dev nD) (h : k0_cond2 c = 1#1) : k0_dev15 c = (pe c).val := by revert c; decide

set_option maxHeartbeats 3200000 in
/-- The body on a middle. -/
theorem body_mid (c : Dev nD) (hc : isEnd c = false) :
    iprop(env m ρ K ∗ bodyPre m ρ c) ⊢ run c (body (F := F) c) (fun _ => bodyPost m ρ c) := by
  have h1 : ¬ k0_cond1 c = 1#1 := fun h => by have := (cond1_eq c).mp h; rw [hc] at this; cases this
  have h2 : k0_cond2 c = 1#1 := (cond2_eq c).mpr hc
  have hs : sender 1 c = true := by show (!isEnd c) = true; rw [hc]; rfl
  have ho : isEnd (ot c) = false := by rw [isEnd_ot, hc]
  unfold body run
  simp only [cc0_body_eq_skeleton]; unfold cc0_body_skel
  simp only [Prog.lift, Prog.bind_op, Prog.bind_ret, Prog.pure_eq_ret, wp_deviceId, dif_neg h1, dif_pos h2,
    k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton,
    k0_part5_skel, k0_part6_skel, k0_part7_skel, k0_part8_skel, k0_part9_skel, k0_part10_skel, k0_part11_skel, k0_part12_skel, k0_part13_skel, k0_part14_skel, semSignalWord, semWaitWord]
  unfold bodyPre
  rw [cnt_bar, if_neg (show ¬ isEnd c = true by rw [hc]; decide), show payL c = midL c from if_neg (by rw [hc]; decide)]
  unfold midL
  iintro ⟨#He, HO, Hw, Ht, Ht', Hgh, Hx, Hout, Hin, Hpe, Hps, Hpm⟩
  iapply (run_copy c) $$ [Hx Hin]
  · isplitl [Hx] <;> iassumption
  iintro ⟨Hx, Hin⟩
  ihave Hmem := (mem_intro m ρ c) $$ [Hin Hout Hpe Hps Hpm]
  · isplitl [Hin]; · iexact Hin
    isplitl [Hout]; · iexact Hout
    isplitl [Hpe]; · iexact Hpe
    isplitl [Hps] <;> iassumption
  ihave Hch := (mid_chunks m ρ c hc) $$ [Hmem Hgh]
  · isplitl [Hmem] <;> iassumption
  icases Hch with ⟨⟨Hpe, Hpm⟩, HA, HK1, HB, HK2, HR⟩
  -- the two signals hand over the room on this device
  iapply (run_signal m ρ K c (pe c) _ (Fin.ext (dev_eq6 c h2)) 0 (bar_zero (pe c)) _ rfl) $$ [Ht Hpe HO]
  · isplitr; · iexact He
    isplitl [Ht]; · iexact Ht
    isplitl [Hpe]; · iapply (pay_pend m ρ c hc); iexact Hpe
    iexact HO
  iintro HO
  iapply (run_signal m ρ K c (ot c) _ (Fin.ext (dev_eq7 c h2)) 1 (bar_one (ot c) ho) _ rfl) $$ [Ht' Hpm HO]
  · isplitr; · iexact He
    isplitl [Ht']; · iexact Ht'
    isplitl [Hpm]; · iapply (pay_pmid m ρ c); iexact Hpm
    iexact HO
  iintro HO
  -- the wait brings the room on the others
  iapply (run_wait m ρ K c bar (wpE_semWait_eq 𝒱₀ (c : Thread nD τ) none Set.univ) rfl (by decide) (n := 2 * amt bar)
    (by rw [show dty c bar = Finset.univ from if_neg (by rw [hc]; decide)]; rfl)
    [(ot c, rcv 1 0), (ot c, rcv 1 1), (pe c, rcv 2 0), (ot c, rcv 1 2), (pe c, rcv 2 1), (ot c, rcv 1 3), (pe c, rcv 2 2), (pe c, rcv 2 3)]
    (show ∀ k ∈ [rcv 1 0, rcv 1 1, rcv 2 0, rcv 1 2, rcv 2 1, rcv 1 3, rcv 2 2, rcv 2 3], lvK bar < lvK k by decide)) $$ [Hw HO]
  · isplitr; · iexact He
    isplitl [Hw] <;> iassumption
  iintro ⟨Hz, Hroom, HO⟩
  ihave Hroom := (mid_room m ρ c hc) $$ Hroom
  icases Hroom with ⟨Hroom2, Hroom1⟩
  ihave HK1 := (sk_all (F := F) c 1) $$ [HK1 Hroom1]
  · isplitl [HK1] <;> iassumption
  ihave HK2 := (sk_all (F := F) c 2) $$ [HK2 Hroom2]
  · isplitl [HK2] <;> iassumption
  ihave HA := (Entails.of_eq (four fun i => midA m ρ c i)) $$ HA
  ihave HB := (Entails.of_eq (four fun i => iprop(any (F := F) c outM i ∗ wk (F := F) c (rcv 1 i) N))) $$ HB
  ihave HK1 := (Entails.of_eq (four fun i => sk (F := F) c 1 i)) $$ HK1
  ihave HK2 := (Entails.of_eq (four fun i => sk (F := F) c 2 i)) $$ HK2
  ihave HR := (Entails.of_eq (four fun i => iprop(atS (F := F) c (snd 0 i) ∗ atS (F := F) c (rcv 2 i)))) $$ HR
  icases HA with ⟨HA0, HA1, HA2, HA3⟩
  icases HB with ⟨HB0, HB1, HB2, HB3⟩
  icases HK1 with ⟨HP0, HP1, HP2, HP3⟩
  icases HK2 with ⟨HQ0, HQ1, HQ2, HQ3⟩
  icases HR with ⟨HR0, HR1, HR2, HR3⟩
  -- the sums and the totals
  iapply (run_red m ρ K 0 c _ (Fin.ext (dev_eq8 c h2)) hc [(ot c, rcv 1 1), (pe c, rcv 2 0), (ot c, rcv 1 2), (pe c, rcv 2 1), (ot c, rcv 1 3), (pe c, rcv 2 2), (pe c, rcv 2 3)]
    (show ∀ k ∈ ([rcv 1 1, rcv 2 0, rcv 1 2, rcv 2 1, rcv 1 3, rcv 2 2, rcv 2 3] : List CK), 2 < lvK k by decide) rfl rfl rfl (w := k0_pay2) rfl) $$ [HA0 HP0 HO]
  · isplitr; · iexact He
    isplitl [HA0]; · iexact HA0
    isplitl [HP0] <;> iassumption
  iintro ⟨HM0, HH0, HS0, HO⟩
  iapply (run_red m ρ K 1 c _ (Fin.ext (dev_eq9 c h2)) hc [(pe c, rcv 2 0), (ot c, rcv 1 2), (pe c, rcv 2 1), (ot c, rcv 1 3), (pe c, rcv 2 2), (pe c, rcv 2 3)]
    (show ∀ k ∈ ([rcv 2 0, rcv 1 2, rcv 2 1, rcv 1 3, rcv 2 2, rcv 2 3] : List CK), 2 < lvK k by decide) rfl rfl rfl (w := k0_pay3) rfl) $$ [HA1 HP1 HO]
  · isplitr; · iexact He
    isplitl [HA1]; · iexact HA1
    isplitl [HP1] <;> iassumption
  iintro ⟨HM1, HH1, HS1, HO⟩
  iapply (run_tot m ρ K 0 c _ (Fin.ext (dev_eq10 c h2)) hc [(ot c, rcv 1 2), (pe c, rcv 2 1), (ot c, rcv 1 3), (pe c, rcv 2 2), (pe c, rcv 2 3)]
    (show ∀ k ∈ ([rcv 1 2, rcv 2 1, rcv 1 3, rcv 2 2, rcv 2 3] : List CK), 3 + ((0 : Fin 4)).val < lvK k by decide) rfl rfl rfl (w := k0_pay4) rfl) $$ [HH0 HB0 HQ0 HO]
  · isplitr; · iexact He
    isplitl [HH0]; · iexact HH0
    isplitl [HB0]; · iexact HB0
    isplitl [HQ0] <;> iassumption
  iintro ⟨HH0, HZ0, HT0, HO⟩
  iapply (run_red m ρ K 2 c _ (Fin.ext (dev_eq11 c h2)) hc [(pe c, rcv 2 1), (ot c, rcv 1 3), (pe c, rcv 2 2), (pe c, rcv 2 3)]
    (show ∀ k ∈ ([rcv 2 1, rcv 1 3, rcv 2 2, rcv 2 3] : List CK), 2 < lvK k by decide) rfl rfl rfl (w := k0_pay5) rfl) $$ [HA2 HP2 HO]
  · isplitr; · iexact He
    isplitl [HA2]; · iexact HA2
    isplitl [HP2] <;> iassumption
  iintro ⟨HM2, HH2, HS2, HO⟩
  iapply (run_tot m ρ K 1 c _ (Fin.ext (dev_eq12 c h2)) hc [(ot c, rcv 1 3), (pe c, rcv 2 2), (pe c, rcv 2 3)]
    (show ∀ k ∈ ([rcv 1 3, rcv 2 2, rcv 2 3] : List CK), 3 + ((1 : Fin 4)).val < lvK k by decide) rfl rfl rfl (w := k0_pay6) rfl) $$ [HH1 HB1 HQ1 HO]
  · isplitr; · iexact He
    isplitl [HH1]; · iexact HH1
    isplitl [HB1]; · iexact HB1
    isplitl [HQ1] <;> iassumption
  iintro ⟨HH1, HZ1, HT1, HO⟩
  iapply (run_red m ρ K 3 c _ (Fin.ext (dev_eq13 c h2)) hc [(pe c, rcv 2 2), (pe c, rcv 2 3)]
    (show ∀ k ∈ ([rcv 2 2, rcv 2 3] : List CK), 2 < lvK k by decide) rfl rfl rfl (w := k0_pay7) rfl) $$ [HA3 HP3 HO]
  · isplitr; · iexact He
    isplitl [HA3]; · iexact HA3
    isplitl [HP3] <;> iassumption
  iintro ⟨HM3, HH3, HS3, HO⟩
  iapply (run_tot m ρ K 2 c _ (Fin.ext (dev_eq14 c h2)) hc [(pe c, rcv 2 3)]
    (show ∀ k ∈ ([rcv 2 3] : List CK), 3 + ((2 : Fin 4)).val < lvK k by decide) rfl rfl rfl (w := k0_pay8) rfl) $$ [HH2 HB2 HQ2 HO]
  · isplitr; · iexact He
    isplitl [HH2]; · iexact HH2
    isplitl [HB2]; · iexact HB2
    isplitl [HQ2] <;> iassumption
  iintro ⟨HH2, HZ2, HT2, HO⟩
  iapply (run_tot m ρ K 3 c _ (Fin.ext (dev_eq15 c h2)) hc []
    (show ∀ k ∈ ([] : List CK), 3 + ((3 : Fin 4)).val < lvK k by decide) rfl rfl rfl (w := k0_pay9) rfl) $$ [HH3 HB3 HQ3 HO]
  · isplitr; · iexact He
    isplitl [HH3]; · iexact HH3
    isplitl [HB3]; · iexact HB3
    isplitl [HQ3] <;> iassumption
  iintro ⟨HH3, HZ3, HT3, HO⟩
  -- the sends are over
  iapply (run_sent m ρ K 1 0 c hs rfl [] nofun) $$ [HS0 HO]
  · isplitr; · iexact He
    isplitl [HS0] <;> iassumption
  iintro ⟨HX0, HU0, HO⟩
  iapply (run_sent m ρ K 1 1 c hs rfl [] nofun) $$ [HS1 HO]
  · isplitr; · iexact He
    isplitl [HS1] <;> iassumption
  iintro ⟨HX1, HU1, HO⟩
  iapply (run_sent m ρ K 2 0 c hs rfl [] nofun) $$ [HT0 HO]
  · isplitr; · iexact He
    isplitl [HT0] <;> iassumption
  iintro ⟨HY0, HV0, HO⟩
  iapply (run_sent m ρ K 1 2 c hs rfl [] nofun) $$ [HS2 HO]
  · isplitr; · iexact He
    isplitl [HS2] <;> iassumption
  iintro ⟨HX2, HU2, HO⟩
  iapply (run_sent m ρ K 2 1 c hs rfl [] nofun) $$ [HT1 HO]
  · isplitr; · iexact He
    isplitl [HT1] <;> iassumption
  iintro ⟨HY1, HV1, HO⟩
  iapply (run_sent m ρ K 1 3 c hs rfl [] nofun) $$ [HS3 HO]
  · isplitr; · iexact He
    isplitl [HS3] <;> iassumption
  iintro ⟨HX3, HU3, HO⟩
  iapply (run_sent m ρ K 2 2 c hs rfl [] nofun) $$ [HT2 HO]
  · isplitr; · iexact He
    isplitl [HT2] <;> iassumption
  iintro ⟨HY2, HV2, HO⟩
  iapply (run_sent m ρ K 2 3 c hs rfl [] nofun) $$ [HT3 HO]
  · isplitr; · iexact He
    isplitl [HT3] <;> iassumption
  iintro ⟨HY3, HV3, HO⟩
  imod (mid_fin m ρ K c hc 0) $$ [HM0 HH0 HZ0 HX0 HU0 HY0 HV0 HR0] with HF0
  · isplitr; · iexact He
    isplitl [HM0]; · iexact HM0
    isplitl [HH0]; · iexact HH0
    isplitl [HZ0]; · iexact HZ0
    isplitl [HX0 HU0]
    · isplitl [HX0] <;> iassumption
    isplitl [HY0 HV0]
    · isplitl [HY0] <;> iassumption
    iexact HR0
  imod (mid_fin m ρ K c hc 1) $$ [HM1 HH1 HZ1 HX1 HU1 HY1 HV1 HR1] with HF1
  · isplitr; · iexact He
    isplitl [HM1]; · iexact HM1
    isplitl [HH1]; · iexact HH1
    isplitl [HZ1]; · iexact HZ1
    isplitl [HX1 HU1]
    · isplitl [HX1] <;> iassumption
    isplitl [HY1 HV1]
    · isplitl [HY1] <;> iassumption
    iexact HR1
  imod (mid_fin m ρ K c hc 2) $$ [HM2 HH2 HZ2 HX2 HU2 HY2 HV2 HR2] with HF2
  · isplitr; · iexact He
    isplitl [HM2]; · iexact HM2
    isplitl [HH2]; · iexact HH2
    isplitl [HZ2]; · iexact HZ2
    isplitl [HX2 HU2]
    · isplitl [HX2] <;> iassumption
    isplitl [HY2 HV2]
    · isplitl [HY2] <;> iassumption
    iexact HR2
  imod (mid_fin m ρ K c hc 3) $$ [HM3 HH3 HZ3 HX3 HU3 HY3 HV3 HR3] with HF3
  · isplitr; · iexact He
    isplitl [HM3]; · iexact HM3
    isplitl [HH3]; · iexact HH3
    isplitl [HZ3]; · iexact HZ3
    isplitl [HX3 HU3]
    · isplitl [HX3] <;> iassumption
    isplitl [HY3 HV3]
    · isplitl [HY3] <;> iassumption
    iexact HR3
  rw [wp_ret]
  imodintro
  unfold bodyPost
  isplitl [HO]; · iexact HO
  isplitl [Hz]; · iexact Hz
  isplitl [Hx]; · iexact Hx
  iapply (Entails.of_eq (four fun i => fin m ρ c i).symm)
  isplitl [HF0]; · iexact HF0
  isplitl [HF1]; · iexact HF1
  isplitl [HF2] <;> iassumption

/-- The body on any device. -/
theorem body_run (c : Dev nD) : iprop(env m ρ K ∗ bodyPre m ρ c) ⊢ run c (body (F := F) c) (fun _ => bodyPost m ρ c) := by
  cases h : isEnd c with
  | true => exact body_end m ρ K c h
  | false => exact body_mid m ρ K c h

end Cert.Run

end
-- ==== Proof.Deal.lean ====
/-
# Dealing out the launch's ghost state

The launch mints every cell's state, position and duty tokens; each cell's invariant is allocated, and every device is
dealt the tokens of the duties it pays and the credit of its own cells.
-/
module

public import proofs.«01_k».proof.Proof.Body

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Regrouping -/

/-- Two finite families in the other order. -/
theorem swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), bigSep_univ_equiv (Equiv.prodComm B A), bigSep_univ_prod]
  rfl

/-- Over two kinds at once. -/
theorem two_eq {A B : Type} [Fintype A] [Fintype B] (Ψ : A ⊕ B → sProp 𝕄) :
    bigSep Finset.univ Ψ = iprop((bigSep Finset.univ fun a => Ψ (.inl a)) ∗ bigSep Finset.univ fun b => Ψ (.inr b)) := bigSep_univ_sum Ψ

/-- Over the transfers, chunk by chunk; -/
theorem cp_eq (Φ : Cp → sProp 𝕄) : bigSep Finset.univ Φ = bigSep Finset.univ fun i : Fin 4 => bigSep Finset.univ fun p : Fin 3 => Φ (p, i) := by
  rw [bigSep_univ_prod, swap]

/-- over a device's own semaphores; -/
theorem own_eq (Ψ : Own → sProp 𝕄) :
    bigSep Finset.univ Ψ = bigSep Finset.univ fun i : Fin 4 => bigSep Finset.univ fun p : Fin 3 => iprop(Ψ (.inl (p, i)) ∗ Ψ (.inr (p, i))) := by
  rw [two_eq, ← bigSep_sep', cp_eq]

/-- over all its cells. -/
theorem ck_eq (Ψ : CK → sProp 𝕄) :
    bigSep Finset.univ Ψ = iprop(Ψ bar ∗ bigSep Finset.univ fun i : Fin 4 => bigSep Finset.univ fun p : Fin 3 => iprop(Ψ (snd p i) ∗ Ψ (rcv p i))) := by
  rw [two_eq, bigSep_univ_of_subsingleton (I := Unit) (), own_eq (fun k => Ψ (.inr k))]

def peE : Dev nD ≃ Dev nD := ⟨pe, pe, pe_pe, pe_pe⟩
def otE : Dev nD ≃ Dev nD := ⟨ot, ot, ot_ot, ot_ot⟩
def nbE (p : Fin 3) : Dev nD ≃ Dev nD := ⟨nb p, nb p, nb_nb p, nb_nb p⟩

/-- What every device has of every transfer, dealt to the transfer's other side. -/
theorem across (Ψ : Dev nD → Fin 3 → Fin 4 → sProp 𝕄) :
    (bigSep Finset.univ fun c : Dev nD => bigSep Finset.univ fun i : Fin 4 => bigSep Finset.univ fun p : Fin 3 => Ψ c p i)
      = bigSep Finset.univ fun c : Dev nD => bigSep Finset.univ fun i : Fin 4 => bigSep Finset.univ fun p : Fin 3 => Ψ (nb p c) p i := by
  refine (swap _).trans (Eq.trans (bigSep_congr fun i _ => ?_) (swap _))
  refine (swap _).trans (Eq.trans (bigSep_congr fun p _ => ?_) (swap _))
  exact bigSep_univ_equiv (nbE p) (fun c => Ψ c p i)

/-! ## Minting -/

def kcells : Finset (GSem nD τ sig) := Finset.univ.map ⟨cell, cell_injective⟩

/-- A device's duties as minted: the first of every cell, and the barrier's second. -/
def tokOf (x : Dev nD × (CK ⊕ Unit)) : GSem nD τ sig × ℕ × Fin 2 := match x.2 with
  | .inl k => (cell (x.1, k), 0, 0)
  | .inr _ => (cell (x.1, bar), 0, 1)
/-- Different payers hold different tokens. -/
theorem tokOf_injective : Function.Injective tokOf := by
  rintro ⟨c, k | _⟩ ⟨c', k' | _⟩ h
  · have h1 := cell_injective (congrArg Prod.fst h)
    cases h1; rfl
  · exact absurd (congrArg (fun x : GSem nD τ sig × ℕ × Fin 2 => x.2.2) h) (show ¬ (0 : Fin 2) = 1 by decide)
  · exact absurd (congrArg (fun x : GSem nD τ sig × ℕ × Fin 2 => x.2.2) h) (show ¬ (1 : Fin 2) = 0 by decide)
  · have h1 := cell_injective (congrArg Prod.fst h)
    cases h1; rfl
def ktoks : Finset (GSem nD τ sig × ℕ × Fin 2) := Finset.univ.map ⟨tokOf, tokOf_injective⟩

def u₀ : UU := (initOf (Pipeline.cells cfgs cellOf_inj) (Pipeline.launchToks cfgs cellOf_inj), initOf kcells ktoks)

abbrev tok (c : Dev nD) (k : CK) (d : Fin 2) : sProp 𝕄 := dutyTok ER (cell (c, k)) 0 d

/-- The tokens of device `c`'s own cells. -/
def toks (c : Dev nD) : sProp 𝕄 := iprop((bigSep Finset.univ fun k : CK => tok (F := F) c k 0) ∗ tok (F := F) c bar 1)

/-- What the launch's element gives device `c`. -/
def G (c : Dev nD) : sProp 𝕄 :=
  iprop((bigSep Finset.univ fun k : CK => roundState ER (sched m ρ) (cell (c, k)) 0)
    ∗ (bigSep Finset.univ fun k : CK => reached ER (cell (c, k)) 0) ∗ (bigSep Finset.univ fun k : CK => atS (F := F) c k) ∗ toks (F := F) c)

/-- The ghost state minted at launch is every device's share of it. -/
theorem fund_cells : BI.own (ER (initOf kcells ktoks)) ⊢ (|==> bigSep Finset.univ (G m ρ) : sProp 𝕄) := by
  have hX (Φ : GSem nD τ sig → sProp 𝕄) : bigSep kcells Φ = bigSep Finset.univ fun c : Dev nD => bigSep Finset.univ fun k : CK => Φ (cell (c, k)) := by
    unfold kcells; rw [bigSep_map, bigSep_univ_prod]; rfl
  have hT : bigSep ktoks (fun x => (dutyTok ER x.1 x.2.1 x.2.2 : sProp 𝕄)) = bigSep Finset.univ fun c : Dev nD => toks (F := F) c := by
    unfold ktoks toks; rw [bigSep_map, bigSep_univ_prod]
    refine bigSep_congr fun c _ => ?_
    rw [two_eq, bigSep_univ_of_subsingleton (I := Unit) ()]; rfl
  refine (Rounds.fund ER (sched m ρ) kcells ktoks).trans (BI.bupd_mono ?_)
  unfold G
  rw [hX, hX, hX, hT, bigSep_sep', bigSep_sep', bigSep_sep']
  exact BI.Entails.refl _

/-! ## Allocating and dealing -/

/-- The barrier is the one semaphore the launch does not scope. -/
theorem unscoped_eq (c : Dev nD) : (unscopedSems0 c : sProp 𝕄) = zr (F := F) c bar := by
  unfold unscopedSems0; rw [bigSep_eq_bigSepL_of_eq [SemLoc.reg barS] (by decide) (by decide)]; rfl

/-- The counters of the transfers' semaphores and of the barrier at launch are the counters of the cells. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CK => zr (F := F) c k : sProp 𝕄) := by
  rw [unscoped_eq, two_eq, bigSep_univ_of_subsingleton (I := Unit) ()]
  unfold Pipeline.ownSems0
  iintro ⟨H, H'⟩
  isplitl [H'] <;> iassumption

/-- Device `c`'s cells' invariants, each under some name. -/
def named (c : Dev nD) : sProp 𝕄 := bigSep Finset.univ fun k : CK => iprop(∃ κ : ℕ, cellInv ER (sched m ρ) κ (cell (c, k)))

/-- A device turns its counters and its share of the ghost state into its cells' invariants, positions and tokens. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(named m ρ c ∗ (bigSep Finset.univ fun k : CK => reached ER (cell (c, k)) 0)
          ∗ (bigSep Finset.univ fun k : CK => atS (F := F) c k) ∗ toks (F := F) c) := by
  unfold G
  iintro ⟨Hos, Hus, Hst, Hrest⟩
  ihave Hv := (sems0 (F := F) c) $$ [Hos Hus]
  · isplitl [Hos] <;> iassumption
  imod (show iprop((bigSep Finset.univ fun k : CK => zr (F := F) c k) ∗ bigSep Finset.univ fun k : CK => roundState ER (sched m ρ) (cell (c, k)) 0)
      ⊢ (|={Set.univ}=> named m ρ c : sProp 𝕄) from by
        rw [← bigSep_sep']
        exact (bigSep_mono fun k _ => (Rounds.body_intro ER (sched m ρ) (cell (c, k))).trans inv_alloc).trans (bigSep_fupd _ _)) $$ [Hv Hst] with Hinv
  · isplitl [Hv] <;> iassumption
  imodintro
  isplitl [Hinv] <;> iassumption

/-- The tokens device `c` is dealt: of the duties it pays. -/
def pays (c : Dev nD) : sProp 𝕄 :=
  iprop((tok (F := F) (pe c) bar 0 ∗ tok (F := F) (ot c) bar 1)
    ∗ bigSep Finset.univ fun i : Fin 4 => bigSep Finset.univ fun p : Fin 3 => iprop(tok (F := F) c (snd p i) 0 ∗ tok (F := F) (nb p c) (rcv p i) 0))

/-- A pair of families over every device, chunk and phase, taken apart. -/
theorem apart (A B : Dev nD → Fin 3 → Fin 4 → sProp 𝕄) :
    (bigSep Finset.univ fun c : Dev nD => bigSep Finset.univ fun i : Fin 4 => bigSep Finset.univ fun p : Fin 3 => iprop(A c p i ∗ B c p i))
      = iprop((bigSep Finset.univ fun c : Dev nD => bigSep Finset.univ fun i : Fin 4 => bigSep Finset.univ fun p : Fin 3 => A c p i)
          ∗ bigSep Finset.univ fun c : Dev nD => bigSep Finset.univ fun i : Fin 4 => bigSep Finset.univ fun p : Fin 3 => B c p i) := by
  rw [← bigSep_sep']
  refine bigSep_congr fun c _ => ?_
  rw [← bigSep_sep']
  exact bigSep_congr fun i _ => bigSep_sep' _ _ _

/-- The last two of three parts exchanged. -/
theorem turn (P Q R : sProp 𝕄) : iprop((P ∗ Q) ∗ R) = iprop((P ∗ R) ∗ Q) := by
  have h : ∀ P Q R : sProp 𝕄, iprop((P ∗ Q) ∗ R) ⊢ iprop((P ∗ R) ∗ Q) := fun P Q R => by
    iintro ⟨⟨HP, HQ⟩, HR⟩
    isplitl [HP HR]
    · isplitl [HP] <;> iassumption
    · iexact HQ
  exact equiv_iff.mp ⟨h P Q R, h P R Q⟩

/-- The tokens, dealt from the devices whose cells they are of to the devices that pay them. -/
theorem deal : (bigSep Finset.univ fun c : Dev nD => toks (F := F) c) = bigSep Finset.univ fun c : Dev nD => pays (F := F) c := by
  have hp := bigSep_univ_equiv peE (fun c => tok (F := F) c bar 0)
  have ho := bigSep_univ_equiv otE (fun c => tok (F := F) c bar 1)
  unfold pays
  rw [bigSep_sep', bigSep_sep', apart, ← across (fun c p i => tok (F := F) c (rcv p i) 0), ← apart (fun c p i => tok (F := F) c (snd p i) 0)]
  refine Eq.trans ?_ (congrArg₂ (fun X Y => iprop((X ∗ Y) ∗ bigSep Finset.univ fun c : Dev nD => bigSep Finset.univ fun i : Fin 4 =>
    bigSep Finset.univ fun p : Fin 3 => iprop(tok (F := F) c (snd p i) 0 ∗ tok (F := F) c (rcv p i) 0))) hp ho)
  rw [← bigSep_sep', ← bigSep_sep']
  refine bigSep_congr fun c _ => ?_
  unfold toks
  rw [ck_eq (fun k => tok (F := F) c k 0)]
  exact turn _ _ _

/-- What device `c` holds once everything is dealt. -/
def dealt (c : Dev nD) : sProp 𝕄 := iprop((bigSep Finset.univ fun k : CK => atS (F := F) c k) ∗ pays (F := F) c)
def G' (c : Dev nD) : sProp 𝕄 := iprop((∃ K, records m ρ K) ∗ dealt (F := F) c)

/-- What all devices hold after the invariants are made, with the tokens dealt to their payers and the record shared. -/
theorem regroup :
    (bigSep Finset.univ fun c : Dev nD => iprop(named m ρ c ∗ (bigSep Finset.univ fun k : CK => reached ER (cell (c, k)) 0)
          ∗ (bigSep Finset.univ fun k : CK => atS (F := F) c k) ∗ toks (F := F) c) : sProp 𝕄)
      ⊢ bigSep Finset.univ (G' m ρ) := by
  unfold named
  rw [bigSep_sep', bigSep_sep', bigSep_sep', ← bigSep_univ_prod (fun x : Dev nD × CK => iprop(∃ κ : ℕ, cellInv ER (sched m ρ) κ (cell x))),
    ← bigSep_univ_prod (fun x : Dev nD × CK => (reached ER (cell x) 0 : sProp 𝕄)), deal]
  iintro ⟨HI, #HR, Hat, Htok⟩
  ihave HK := (BI.bigSep_exists_pi Finset.univ (fun (x : Dev nD × CK) (κ : ℕ) => (cellInv ER (sched m ρ) κ (cell x) : sProp 𝕄))) $$ HI
  icases HK with ⟨%K, #HI⟩
  unfold G' dealt
  rw [bigSep_sep', bigSep_sep']
  isplitr
  · iapply ((BI.bigSep_of_persistent Finset.univ (records m ρ K)).trans (bigSep_mono fun c _ => show records m ρ K ⊢ iprop(∃ K, records m ρ K) from by
      iintro H; iexists K; iexact H))
    unfold records; isplitl; · iexact HI
    iexact HR
  isplitl [Hat] <;> iassumption

/-- The launch's one step over all devices: the invariants allocated, the tokens dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

def O₀ (c : Dev nD) : CellTallies nD τ sig Unit := owedL (payL c)

/-- What the whole mesh owes a cell at launch is its payments at their amount. -/
theorem launch_cell (c : Dev nD) (k : CK) :
    tallyOn (cell (c, k)) (launchCredit (Pipeline.owing O₀) 0 (cell (c, k))) = (tallyAt (cell (c, k)) () (cnt c k * amt k) : CellTallies nD τ sig Unit) := by
  unfold tallyAt; refine congrArg _ (Finsupp.ext fun u => ?_); cases u
  rw [Pipeline.launchCredit_owing, Finsupp.single_eq_same]
  show ∑ d, owedL (payL d) (cell (c, k)) () = (∑ d, times (c, k) (payL d)) * amt k
  rw [Finset.sum_mul]
  exact Finset.sum_congr rfl fun d _ => owedL_apply (payL d) (c, k)

/-- The launch credit of a device holds, for each of its cells, the credit of the payments it will receive. -/
theorem creds (c : Dev nD) :
    (Pipeline.launchCred O₀ c : sProp 𝕄) ⊢ bigSep Finset.univ fun k : CK => cred (tallyAt (cell (c, k)) () (cnt c k * amt k)) := by
  unfold Pipeline.launchCred
  refine (bigSep_subset (Finset.subset_univ (Finset.univ.map ⟨csem, csem_injective⟩))).trans ?_
  rw [bigSep_map]
  exact Entails.of_eq (bigSep_congr fun k _ => congrArg cred (launch_cell c k))

/-- What the launch deals device `c`, as the body takes it. -/
def lin (c : Dev nD) : sProp 𝕄 :=
  iprop(wk (F := F) c bar (cnt c bar * amt bar)
    ∗ dutyTok ER (cell (pe c, bar)) 0 (0 : Fin 2) ∗ dutyTok ER (cell (ot c, bar)) 0 (1 : Fin 2)
    ∗ (bigSep Finset.univ fun i : Fin 4 => bigSep Finset.univ fun p : Fin 3 => gh (F := F) c p i))

/-- What a device is dealt, with the credit of its cells, is what the body starts from. -/
theorem lin_intro (c : Dev nD) :
    iprop(dealt (F := F) c ∗ bigSep Finset.univ fun k : CK => cred (tallyAt (cell (c, k)) () (cnt c k * amt k))) ⊢ lin (F := F) c := by
  have hgh : iprop((bigSep Finset.univ fun i : Fin 4 => bigSep Finset.univ fun p : Fin 3 => iprop(tok (F := F) c (snd p i) 0 ∗ tok (F := F) (nb p c) (rcv p i) 0))
      ∗ (bigSep Finset.univ fun i : Fin 4 => bigSep Finset.univ fun p : Fin 3 => iprop(atS (F := F) c (snd p i) ∗ atS (F := F) c (rcv p i)))
      ∗ bigSep Finset.univ fun i : Fin 4 => bigSep Finset.univ fun p : Fin 3 =>
        iprop(cred (tallyAt (cell (c, snd p i)) () (cnt c (snd p i) * amt (snd p i))) ∗ cred (tallyAt (cell (c, rcv p i)) () (cnt c (rcv p i) * amt (rcv p i)))))
      ⊢ (bigSep Finset.univ fun i : Fin 4 => bigSep Finset.univ fun p : Fin 3 => gh (F := F) c p i : sProp 𝕄) := by
    rw [← bigSep_sep', ← bigSep_sep']
    refine bigSep_mono fun i _ => ?_
    rw [← bigSep_sep', ← bigSep_sep']
    refine bigSep_mono fun p _ => (show iprop((tok (F := F) c (snd p i) 0 ∗ tok (F := F) (nb p c) (rcv p i) 0) ∗ (atS (F := F) c (snd p i) ∗ atS (F := F) c (rcv p i))
      ∗ cred (tallyAt (cell (c, snd p i)) () (cnt c (snd p i) * amt (snd p i))) ∗ cred (tallyAt (cell (c, rcv p i)) () (cnt c (rcv p i) * amt (rcv p i))))
      ⊢ gh (F := F) c p i from ?_)
    unfold gh
    iintro ⟨H1, H2, -, H3⟩
    isplitl [H1]; · iexact H1
    isplitl [H2] <;> iassumption
  unfold dealt pays lin wk
  rw [ck_eq (fun k => atS (F := F) c k), ck_eq (fun k => (cred (tallyAt (cell (c, k)) () (cnt c k * amt k)) : sProp 𝕄))]
  iintro ⟨⟨⟨Hab, Hat⟩, ⟨Hp, Ho⟩, Ht⟩, Hcb, Hc⟩
  isplitl [Hcb Hab]
  · isplitl [Hcb] <;> iassumption
  isplitl [Hp]; · iexact Hp
  isplitl [Ho]; · iexact Ho
  iapply hgh
  isplitl [Ht]; · iexact Ht
  isplitl [Hat] <;> iassumption

end Cert.Run

end
-- ==== Proof.Launch.lean ====
/-
# The launch and the run

The body's obligation to the launch, and the run of the whole program: it terminates, the arguments are unchanged, every
counter is zero and each device's result is the one the protocol names.
-/
module

public import proofs.«01_k».proof.Proof.Mid
public import proofs.«01_k».proof.Proof.Deal
public import Idealize.ShloMosaic.Lib.Pipeline.CollectiveSegs

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The data of the launch -/

/-- The grid has one point, -/
theorem cfg0_N : cfg0.N = 1 := by decide
def t₀ : Fin cfg0.N := ⟨0, by rw [cfg0_N]; decide⟩
/-- and every point is that one. -/
theorem fin_N (t : Fin cfg0.N) : t = t₀ := by
  obtain ⟨t, ht⟩ := t; have := cfg0_N; exact Fin.ext (by simp only [t₀]; omega)

/-- What device `c` starts from. -/
def start (c : Dev nD) : sProp 𝕄 := iprop((∃ K, env m ρ K) ∗ lin (F := F) c)
/-- The scratch arrays, whatever they hold. -/
def scr (c : Dev nD) : sProp 𝕄 := iprop(wh (F := F) c inM ∗ wh (F := F) c pendM ∗ wh (F := F) c psumM ∗ wh (F := F) c pmidM)
/-- The counters of the device's own semaphores, at zero. -/
def zeros (c : Dev nD) : sProp 𝕄 :=
  bigSep Finset.univ fun i : Fin 4 => bigSep Finset.univ fun p : Fin 3 => iprop(zr (F := F) c (snd p i) ∗ zr (F := F) c (rcv p i))

/-- Before the body and after it. -/
def Φ₀ (c : Dev nD) : sProp 𝕄 := iprop(start m ρ c ∗ scr (F := F) c)
def Φ₁ (c : Dev nD) : sProp 𝕄 := iprop(zr (F := F) c bar ∗ zeros (F := F) c ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- The input is fetched at the point. -/
theorem fetch_0 (t : Fin cfg0.N) : (cfg0.win (0 : Fin 2)).fetch t = true := by rw [fin_N t]; rfl

/-! ## The body's obligation -/

/-- The chunks' last state, as whole arrays and counters. -/
theorem gather (c : Dev nD) :
    (bigSep Finset.univ fun i : Fin 4 => fin m ρ c i)
      ⊢ iprop(owns (c : Thread nD τ) outM fullShare (outAt m ρ c) ∗ scr (F := F) c ∗ zeros (F := F) c) := by
  unfold fin scr zeros
  rw [bigSep_sep', bigSep_sep', bigSep_sep', bigSep_sep', bigSep_sep']
  iintro ⟨⟨Hi, Ho, Hpe, Hps, Hpm⟩, Hz⟩
  isplitl [Ho]; · iapply (wh_join c outM (outC m ρ c)); iexact Ho
  isplitl [Hi Hpe Hps Hpm]
  · isplitl [Hi]; · iapply (wh_any c inM); iexact Hi
    isplitl [Hpe]; · iapply (wh_any c pendM); iexact Hpe
    isplitl [Hps]; · iapply (wh_any c psumM); iexact Hps
    iapply (wh_any c pmidM); iexact Hpm
  iexact Hz

def obPre (c : Dev nD) : sProp 𝕄 :=
  iprop(Φ₀ m ρ c ∗ (dats m ρ 0 c).owesAt () t₀.castSucc
    ∗ (∃ d, owns (c : Thread nD τ) xM fullShare ((dats m ρ 0 c).before (0 : Fin 2) t₀ d))
    ∗ (∃ d, owns (c : Thread nD τ) outM fullShare ((dats m ρ 0 c).before (1 : Fin 2) t₀ d)))
def obPost (c : Dev nD) : sProp 𝕄 :=
  iprop(Φ₁ (F := F) c ∗ (dats m ρ 0 c).owesAt () t₀.succ
    ∗ owns (c : Thread nD τ) xM fullShare (xstg m ρ c) ∗ owns (c : Thread nD τ) outM fullShare (outAt m ρ c))

/-- The body, from what the launch hands it, ends with what the launch asks for. -/
theorem ob_run (c : Dev nD) : obPre m ρ c ⊢ run c (body (F := F) c) (fun _ => obPost m ρ c) := by
  unfold obPre Φ₀ start scr lin
  iintro ⟨⟨⟨⟨%K, #He⟩, Hw, Ht, Ht', Hgh⟩, Hin, Hpe, Hps, Hpm⟩, HO, ⟨%d0, Hx⟩, ⟨%d1, Hout⟩⟩
  have hx : (dats m ρ 0 c).before (0 : Fin 2) t₀ d0 = xstg m ρ c := by unfold Dat.before; rw [if_pos (fetch_0 t₀)]; rfl
  ihave Hx := (Entails.of_eq (congrArg (fun X => (owns (c : Thread nD τ) xM fullShare X : sProp 𝕄)) hx)) $$ Hx
  unfold Dat.owesAt Pipeline.owesWithin
  icases HO with ⟨%W, %hW, HO⟩
  iapply (wp_wand_r (Q := fun _ => bodyPost m ρ c) _ _ _)
  isplitl
  · iapply (body_run m ρ K c)
    isplitr; · iexact He
    unfold bodyPre
    isplitl [HO]; · unfold ow; iexists W; iexact HO
    isplitl [Hw]; · iexact Hw
    isplitl [Ht]; · iexact Ht
    isplitl [Ht']; · iexact Ht'
    isplitl [Hgh]; · iexact Hgh
    isplitl [Hx]; · iexact Hx
    isplitl [Hout]; · iexists _; iexact Hout
    isplitl [Hin]; · iexact Hin
    isplitl [Hpe]; · iexact Hpe
    isplitl [Hps] <;> iassumption
  iintro %a
  unfold bodyPost ow obPost Φ₁
  iintro ⟨⟨%W', HO⟩, Hz, Hx, Hf⟩
  ihave Hg := (gather m ρ c) $$ Hf
  icases Hg with ⟨Hout, Hscr, Hzs⟩
  isplitl [Hz Hscr Hzs]
  · isplitl [Hz]; · iexact Hz
    isplitl [Hzs] <;> iassumption
  isplitl [HO]
  · unfold Dat.owesAt Pipeline.owesWithin
    iexists W'
    isplitr; · ipureintro; exact fun _ _ => Or.inl trivial
    iexact HO
  isplitl [Hx] <;> iassumption

set_option maxRecDepth 4000 in
/-- The body's obligation to the launch, at every point. -/
theorem body_obligation (c : Dev nD) : BodyObligation (dats (F := F) m ρ 0 c) (defs₀ (F := F)) 𝒱₀ () Set.univ := fun t => by
  rw [fin_N t, bigSep_W0, bigSep_W0]
  show obPre m ρ c ⊢ run c (body (F := F) c) (fun _ => obPost m ρ c)
  exact ob_run m ρ c

/-! ## The side conditions -/

/-- The transfers' semaphores are the kernel's own, each once. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- What the launch gives a device is what the device starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start
  iintro ⟨-, Hlev, Hcr, -, ⟨%K, HK⟩, Hd⟩
  ihave Hc := (creds (F := F) c) $$ Hcr
  imodintro
  isplitl
  · isplitl [HK Hlev]
    · iexists K; unfold env; isplitl [HK] <;> iassumption
    iapply (lin_intro (F := F) c)
    isplitl [Hd] <;> iassumption
  · iempintro

/-- A whole buffer held, whatever it holds. -/
theorem wh_whole (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  simp only [owns_whole]

/-- The kernel's own buffers are the four scratch arrays. -/
theorem scr_eq (c : Dev nD) : (Pipeline.scopedRest cfg0.spec c : sProp 𝕄) = scr (F := F) c := by
  rw [scopedRest0_eq, wh_whole, wh_whole, wh_whole, wh_whole]; rfl

/-- The start and the scratch arrays are the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_eq]
  unfold Φ₀
  iintro ⟨Hs, -, Hr⟩
  isplitl [Hs] <;> iassumption

/-- The state after the body gives back the counters at zero and the scratch arrays. -/
theorem phi1_exit (c : Dev nD) :
    (dats m ρ 0 c).Φ (Fin.last cfg0.N) ⊢ iprop(unscopedSems0 c ∗ Pipeline.ownSems0 osem c ∗ Pipeline.scopedRest cfg0.spec c) := by
  have hz : (Pipeline.ownSems0 (Ix := Unit) (Name := ℕ) (U := UU) (Lvl := ℕ) (Val := Elt F) (τ := τ) osem c : sProp 𝕄) = zeros (F := F) c :=
    own_eq (fun k => semVal ((c : Thread nD τ), osem k) 0)
  rw [show (dats m ρ 0 c).Φ (Fin.last cfg0.N) = Φ₁ (F := F) c from rfl, scr_eq, hz, unscoped_eq]
  unfold Φ₁
  exact BI.Entails.refl _

/-- The launch may wait on its staging semaphores: they are below everything owed. -/
theorem waits (c : Dev nD) : (levAts L lv : sProp 𝕄) ⊢ Pipeline.cellsWaits cfgs (dats m ρ) () 0 c :=
  Pipeline.cellsWaits_intro cfgs (dats m ρ) () 0 c fun w s t => by
    have hk : kind (.dma ((cfg0.win w).sem s)) = none := by fin_cases w <;> fin_cases s <;> decide
    rcases t with ⟨_ | _, ht⟩
    · exact mayWait c _ (payL c) (by
        rw [show kind (.dma ((cfg0.win w).sem s)) = none from hk]
        show ∀ k ∈ (payL c).map Prod.snd, 0 < lvK k
        unfold payL; split
        · exact (show ∀ k ∈ [bar, rcv 0 0, rcv 0 1, rcv 0 2, rcv 0 3], 0 < lvK k by decide)
        · exact (show ∀ k ∈ [bar, bar, rcv 1 0, rcv 1 1, rcv 2 0, rcv 1 2, rcv 2 1, rcv 1 3, rcv 2 2, rcv 2 3], 0 < lvK k by decide))
    · exact mayWait c _ [] nofun

/-! ## The run -/

/-- What each array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with zero counters, every weakly fair execution of the program terminates, and
    in the end every device's arrays hold what `finalA` says and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument ends holding what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The run without its values: the argument is unchanged on every device and every counter is zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_x m ρ c), h.2⟩) (run_main m ρ)

end Cert.Run

end
-- ==== Proof.Value.lean ====
/-
# What the kernel computes

Over the extended reals every device's result is, entry by entry, the sum of the four blocks of its row of the mesh; so is
the reference's result.
-/
module

public import proofs.«01_k».proof.Proof.Launch
public import proofs.«01_k».proof.Proof.Gen.ReferenceIdeal
public import Idealize.ShloMosaic.Lib.Pipeline.ValueKit.Geometry
public import Idealize.ShloMosaic.Lib.Pointwise.Reduce
public import Idealize.ShloMosaic.Lib.Layout
public import Idealize.ShloMosaic.PureOps.Ideal.Laws

@[expose] public section

noncomputable section

namespace Cert.Run

open Cert.KernelIdeal Cert.KernelIdeal.Gen

open Idealize.ShloMosaic
open Idealize.ShloMosaic.TcCoe
open Idealize.SL.Sem

/-! ## The result array after the run -/

section Any
variable {F : FTy → Type} [FloatOps F]
variable (m : (ℓ : Loc nD τ sig) → Buf (Elt F) ℓ) (ρ : Dev nD → PrngReg)

/-- The input's one block is the whole array. -/
theorem xstg_eq (c : Dev nD) : xstg m ρ c = m ((c : Thread nD τ).loc main_arg0) := by
  have h : ∀ a, (win0_0.index (0 : Fin 1)) a = 0 := by decide +kernel
  funext i
  show m ((c : Thread nD τ).loc main_arg0) ((win0_0.rect (0 : Fin 1)).emb i) = m ((c : Thread nD τ).loc main_arg0) i
  congr 1; funext a; apply Fin.ext
  rw [Pipeline.Window.rect_emb_val_of_index_zero _ _ _ (h a)]

/-- The output's one block is the whole array, so the result array ends at what the body left. -/
theorem finalA_out (c : Dev nD) : finalA m ρ c (1 : Fin 2) = outAt m ρ c :=
  (dats m ρ 0 c).arrAt_eq_of_after_last (1 : Fin 2) t₀ (by decide +kernel) _ fun j => rfl

/-- The sum that the middle `c` makes, at one entry: its own block and its end's, and the same on the other side. -/
def sum4 (c : Dev nD) (J : S512x512.Idx) : F .bf16 :=
  FloatOps.addf (FloatOps.addf (m ((c : Thread nD τ).loc main_arg0) J) (m ((pe c : Thread nD τ).loc main_arg0) J))
    (FloatOps.addf (m ((ot c : Thread nD τ).loc main_arg0) J) (m ((pe (ot c) : Thread nD τ).loc main_arg0) J))

/-- A device's chunk, entry by entry, is its block at the chunk's place. -/
theorem inC_apply (c : Dev nD) (i : Fin 4) (j : S128x512.Idx) :
    inC m ρ c i j = m ((c : Thread nD τ).loc main_arg0) ((rk i).emb j) := by
  unfold inC inA k0_pay1
  rw [shapeCast_self, shapeCast_self, xstg_eq]

/-- A middle's total, entry by entry, is its sum of four. -/
theorem tot_apply (c : Dev nD) (i : Fin 4) (j : S128x512.Idx) : tot m ρ c i j = sum4 m c ((rk i).emb j) := by
  unfold tot psum k0_pay4 k0_pay2 sum4
  dsimp only
  rw [shapeCast_self, shapeCast_self, ← inC_apply m ρ c, ← inC_apply m ρ (pe c), ← inC_apply m ρ (ot c), ← inC_apply m ρ (pe (ot c))]
  rfl

/-- Every entry of the result on `c` is the sum that `c`, or the middle beside it, made. -/
theorem outAt_apply (c : Dev nD) (J : S512x512.Idx) : outAt m ρ c J = sum4 m (if isEnd c then pe c else c) J := by
  obtain ⟨i, -, hi⟩ := Finset.mem_biUnion.mp (rk_cover.symm ▸ Finset.mem_univ J)
  rw [← Rect.map_emb_univ, Finset.mem_map] at hi
  obtain ⟨j, -, rfl⟩ := hi
  refine (Rect.glue_emb rk rk_cover rk_disjoint (outC m ρ c) i j).trans ?_
  unfold outC
  split <;> exact tot_apply m ρ _ i j

end Any

/-! ## Over the extended reals -/

abbrev W512 : Shape := ⟨2, ![512, 512]⟩
abbrev W2048 : Shape := ⟨2, ![2048, 512]⟩

set_option backward.proofsInPublic true in
/-- Where entry `J` of block `z` is in the whole array. -/
def at4 (z : Fin 4) (J : W512.Idx) : W2048.Idx :=
  Shape.pair (d := ![2048, 512]) ⟨z.val * 512 + (J 0).val, by
    have h : (J 0).val < 512 := (J 0).isLt
    have := z.isLt
    show _ < 2048; omega⟩ (J 1)

/-- A device's coordinate along its row. -/
def zc (c : Dev nD) : Fin 4 := ⟨c.val % 4, Nat.mod_lt _ (by decide)⟩

/-- A device holds the block that its coordinate names. -/
theorem block_at (c : Dev nD) (X : W2048.Idx → EReal) (J : W512.Idx) :
    Layout.blockN W512 W2048 (Layout.meshBlock [2, 2, 4] ![[2], []] c) X (by decide) J = X (at4 (zc c) J) := by
  rw [Layout.blockN_apply]
  congr 1; funext b; apply Fin.ext
  rw [Layout.TilesN.idx_val]
  have hc : ∀ c : Dev nD, Layout.meshLin [2, 2, 4] c.val [2] = c.val % 4 := by decide
  rcases b with ⟨_ | _ | n, hb⟩
  · show Layout.meshLin [2, 2, 4] c.val [2] * 512 + (J 0).val = c.val % 4 * 512 + (J 0).val
    rw [hc]
  · show 0 * 512 + (J 1).val = (J 1).val; omega
  · exact absurd hb (by simp)

/-- The sum of the four blocks at one entry. -/
def total (X : W2048.Idx → EReal) (J : W512.Idx) : EReal := ∑ k : Fin 4, X (at4 k J)

section Ideal
variable (m : (ℓ : Loc nD τ sig) → Buf (Elt Ideal) ℓ) (ρ : Dev nD → PrngReg)
variable (X : W2048.Idx → EReal)

/-- A middle's sum is the sum of the four blocks: the order of the additions does not matter. -/
theorem sum4_eq (hX : ∀ c : Dev nD, m ((c : Thread nD τ).loc main_arg0) = Layout.blockN W512 W2048 (Layout.meshBlock [2, 2, 4] ![[2], []] c) X (by decide))
    (c : Dev nD) (hc : isEnd c = false) (J : W512.Idx) : sum4 m c J = total X J := by
  have hz : ∀ c : Dev nD, isEnd c = false →
      (zc c = 1 ∧ zc (pe c) = 0 ∧ zc (ot c) = 2 ∧ zc (pe (ot c)) = 3) ∨ (zc c = 2 ∧ zc (pe c) = 3 ∧ zc (ot c) = 1 ∧ zc (pe (ot c)) = 0) := by
    decide
  have he : ∀ d : Dev nD, (m ((d : Thread nD τ).loc main_arg0) J : EReal) = X (at4 (zc d) J) := fun d =>
    (congrFun (hX d) J).trans (block_at d X J)
  have h : (sum4 m c J : EReal) = (X (at4 (zc c) J) + X (at4 (zc (pe c)) J)) + (X (at4 (zc (ot c)) J) + X (at4 (zc (pe (ot c))) J)) := by
    rw [← he c, ← he (pe c), ← he (ot c), ← he (pe (ot c))]; rfl
  refine h.trans ?_
  unfold total
  rw [Fin.sum_univ_four]
  rcases hz c hc with ⟨h0, h1, h2, h3⟩ | ⟨h0, h1, h2, h3⟩ <;> rw [h0, h1, h2, h3]
  · rw [add_comm (X (at4 1 J)) (X (at4 0 J)), add_assoc, add_assoc, add_assoc]
  · rw [add_comm (X (at4 1 J)) (X (at4 0 J)), add_comm, ← add_assoc]

/-- Every device's result is, at every entry, the sum of the four blocks. -/
theorem out_total (hX : ∀ c : Dev nD, m ((c : Thread nD τ).loc main_arg0) = Layout.blockN W512 W2048 (Layout.meshBlock [2, 2, 4] ![[2], []] c) X (by decide))
    (c : Dev nD) (J : W512.Idx) : outAt m ρ c J = total X J := by
  rw [outAt_apply]
  refine sum4_eq m X hX _ ?_ J
  cases hc : isEnd c
  · exact hc
  · show isEnd (pe c) = false; rw [isEnd_pe, hc]; rfl

end Ideal

/-! ## The reference -/

open Cert.ReferenceIdeal.Gen in
/-- The reference's result: the array as four blocks, widened, summed over the blocks and narrowed. -/
abbrev refOut (X : Vec Ideal Cert.ReferenceIdeal.S2048x512 .bf16) : FVec Ideal Cert.ReferenceIdeal.S512x512 .bf16 :=
  truncf .bf16 (Host.reduceAdd (extf .f32 (shapeCast _ X shapeCasts_S2048x512_S4x512x512) bitsLt_bf16_f32)
    (constant Cert.ReferenceIdeal.S_ .f32 0x00000000#32) reducesTo_S4x512x512_S512x512_d0 h_S_) bitsLt_bf16_f32

open Cert.ReferenceIdeal.Gen in
/-- The reference's result is, at every entry, the sum of the four blocks. -/
theorem ref_total (X : W2048.Idx → EReal) (J : W512.Idx) : refOut X J = total X J := by
  show Ideal.hostReduceAdd reducesTo_S4x512x512_S512x512_d0 (shapeCast Cert.ReferenceIdeal.S4x512x512 X shapeCasts_S2048x512_S4x512x512)
    (Ideal.ofBits .f32 0x00000000#32) J = total X J
  rw [Ideal.hostReduceAdd_r3_a0, Ideal.ofBits_zero_f32, zero_add]
  refine Finset.sum_congr rfl fun k _ => ?_
  refine shapeCast_apply X _ _ (at4 k J) ?_
  rw [Shape.rowMajor_val_two, Shape.rowMajor_val_three]
  show (k.val * 512 + (J 0).val) * 512 + (J 1).val = (k.val * 512 + (J 0).val) * 512 + (J 1).val
  rfl

end Cert.Run

end
-- ==== Proof.lean ====
/-
# The claims

The all-reduce over the axis z of the mesh terminates, keeps its arguments and ends with every counter at zero, at bits and
over the extended reals; and over the extended reals every device's result is the reference's sum of the four blocks.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem

/-- The two printed programs have one text: their bodies' tables are equal, label by label; -/
theorem defs₀_eq {F : FTy → Type} [FloatOps F] : Cert.Kernel.defs₀ (F := F) = Cert.KernelIdeal.defs₀ (F := F) := by
  unfold Cert.Kernel.defs₀ Cert.KernelIdeal.defs₀
  congr 1
  funext ℓ x
  match ℓ, x with
  | 0, (t, b) => rfl

/-- and so are their whole tables. -/
theorem defs_eq {F : FTy → Type} [FloatOps F] : Cert.Kernel.defs (F := F) = Cert.KernelIdeal.defs (F := F) :=
  congrArg (Pipeline.defs Cert.KernelIdeal.pcfgs) defs₀_eq

/-- The kernel at bits terminates, keeps its argument on every device and ends with every counter at zero. -/
theorem frame_kernel : Cert.quiescent_Kernel := fun m ρ _ => by
  rw [defs_eq]; exact Cert.Run.run_frame (F := Bits) m ρ

/-- So does the kernel over the extended reals; -/
theorem frame_kernelIdeal : Cert.quiescent_KernelIdeal := fun m ρ _ => Cert.Run.run_frame (F := Ideal) m ρ

/-- and so does the reference, a straight line that declares no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals every device's result is the reference's: both are the sum of the four blocks. -/
theorem algebraic : Cert.algebraic_KernelIdeal_ReferenceIdeal := fun m ρ m' ρ' _ hX =>
  ⟨Cert.Run.total (m' (((0 : Dev Cert.ReferenceIdeal.nD).tc : Thread Cert.ReferenceIdeal.nD Cert.ReferenceIdeal.τ).loc Cert.ReferenceIdeal.main_arg0)),
    (θ_run Cert.KernelIdeal.defs _ _).mono (fun _ h c =>
        ⟨((h.1 c (1 : Fin 2)).trans (Cert.Run.finalA_out m ρ c)).trans (funext fun J => Cert.Run.out_total m ρ _ hX c J),
          (h.1 c (0 : Fin 2)).trans (Cert.Run.finalA_x m ρ c)⟩)
      (Cert.Run.run_main (F := Ideal) m ρ),
    (θ_run Cert.ReferenceIdeal.defs _ _).mono (fun _ h => ⟨(h 0).1.trans (funext fun J => Cert.Run.ref_total _ J), (h 0).2⟩)
      (Cert.ReferenceIdeal.Value.run (F := Ideal) m' ρ')⟩

/-- Every claim. The kernel over the extended reals is the kernel's own text, so that preservation asks for nothing. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
